-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_class_maxima_within_69 [hPre_class_maxima_within_69 : Cert.Pre_class_maxima_within_69.Facts] (m : (ℓ : Loc Cert.KernelIdeal.nD Cert.KernelIdeal.τ Cert.KernelIdeal.sig) → Buf (Elt Ideal) ℓ) : Prop :=
  ∀ c : Dev Cert.KernelIdeal.nD,
    (Cert.Pre_class_maxima_within_69.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_class_maxima_within_69 [hPre_class_maxima_within_69 : Cert.Pre_class_maxima_within_69.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_class_maxima_within_69.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_class_maxima_within_69 [hKernelIdeal : Cert.KernelIdeal.Facts] [hPre_class_maxima_within_69 : Cert.Pre_class_maxima_within_69.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_class_maxima_within_69 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_class_maxima_within_69 [hReferenceIdeal : Cert.ReferenceIdeal.Facts] [hPre_class_maxima_within_69 : Cert.Pre_class_maxima_within_69.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_class_maxima_within_69 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "count_over_temp" .f32 0x41C80000#32 ((335544320 / 13421773 : ℝ) : EReal)

def algebraic_KernelIdeal_ReferenceIdeal_pre_class_maxima_within_69 [hKernelIdeal : Cert.KernelIdeal.Facts] [hReferenceIdeal : Cert.ReferenceIdeal.Facts] [hPre_class_maxima_within_69 : Cert.Pre_class_maxima_within_69.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_class_maxima_within_69 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_class_maxima_within_69 : Cert.Pre_class_maxima_within_69.Facts),
    quiescent_Kernel (hKernel := hKernel)
    ∧ quiescent_KernelIdeal (hKernelIdeal := hKernelIdeal)
    ∧ quiescent_KernelIdeal_pre_class_maxima_within_69 (hKernelIdeal := hKernelIdeal) (hPre_class_maxima_within_69 := hPre_class_maxima_within_69)
    ∧ quiescent_ReferenceIdeal (hReferenceIdeal := hReferenceIdeal)
    ∧ quiescent_ReferenceIdeal_pre_class_maxima_within_69 (hReferenceIdeal := hReferenceIdeal) (hPre_class_maxima_within_69 := hPre_class_maxima_within_69)
    ∧ preserves_Kernel_KernelIdeal
    ∧ algebraic_KernelIdeal_ReferenceIdeal_pre_class_maxima_within_69 (hKernelIdeal := hKernelIdeal) (hReferenceIdeal := hReferenceIdeal) (hPre_class_maxima_within_69 := hPre_class_maxima_within_69)
-- ==== Pre_class_maxima_within_69.lean ====
abbrev S64x256x768 : Shape := ⟨3, ![64, 256, 768]⟩
abbrev S201x5x768 : Shape := ⟨3, ![201, 5, 768]⟩
abbrev S200x5 : Shape := ⟨2, ![200, 5]⟩
abbrev S_ : Shape := ⟨0, ![]⟩
abbrev S200 : Shape := ⟨1, ![200]⟩

class Facts : Prop where
  reducesTo_S200x5_S200_d1 : S200x5.ReducesTo [1] S200
  h_S_ : 0 < S_.numel
  bcast_S_S200x5 : S_.BroadcastsInDim S200x5 (![] : Fin 0 → Fin S200x5.rank)
  reducesTo_S200x5_S_d0_1 : S200x5.ReducesTo [0, 1] S_
  bcast_S_S200 : S_.BroadcastsInDim S200 (![] : Fin 0 → Fin S200.rank)
  reducesTo_S200_S_d0 : S200.ReducesTo [0] S_

variable [Facts]

def fn {F : FTy → Type} [FloatOps F] (main_arg0 : FVec F S64x256x768 .f32) (main_arg1 : FVec F S201x5x768 .f32) (main_arg2 : FVec F S200x5 .f32) : IVec S_ 1 :=
  let main_cst : FVec F S_ .f32 := constant S_ .f32 0xFF800000#32
  let main_v0 : FVec F S200 .f32 := (fun x v => Host.reduce FloatOps.maximumf x v reducesTo_S200x5_S200_d1 h_S_) main_arg2 main_cst
  let main_v1 : FVec F S200x5 .f32 := Host.absf main_arg2
  let main_cst_0 : FVec F S_ .f32 := constant S_ .f32 0x7149F2CA#32
  let main_v2 : FVec F S200x5 .f32 := broadcastInDim S200x5 ![] bcast_S_S200x5 main_cst_0
  let main_v3 : IVec S200x5 1 := cmpf .ole main_v1 main_v2
  let main_c : IVec S_ 1 := constantI S_ 1 1#1
  let main_v4 : IVec S_ 1 := (fun x v => Host.reduce IntOp.andi x v reducesTo_S200x5_S_d0_1 h_S_) main_v3 main_c
  let main_cst_1 : FVec F S_ .f32 := constant S_ .f32 0xFF800000#32
  let main_v5 : FVec F S_ .f32 := (fun x v => Host.reduce FloatOps.maximumf x v reducesTo_S200x5_S_d0_1 h_S_) main_arg2 main_cst_1
  let main_v6 : FVec F S200 .f32 := broadcastInDim S200 ![] bcast_S_S200 main_v5
  let main_v7 : FVec F S200 .f32 := subf main_v6 main_v0
  let main_cst_2 : FVec F S_ .f32 := constant S_ .f32 0x428A0000#32
  let main_v8 : FVec F S200 .f32 := broadcastInDim S200 ![] bcast_S_S200 main_cst_2
  let main_v9 : IVec S200 1 := cmpf .ole main_v7 main_v8
  let main_c_3 : IVec S_ 1 := constantI S_ 1 1#1
  let main_v10 : IVec S_ 1 := (fun x v => Host.reduce IntOp.andi x v reducesTo_S200_S_d0 h_S_) main_v9 main_c_3
  let main_v11 : IVec S_ 1 := andi main_v4 main_v10
  main_v11
-- ==== Kernel.lean ====
abbrev S64x256x768 : Shape := ⟨3, ![64, 256, 768]⟩
abbrev S201x5x768 : Shape := ⟨3, ![201, 5, 768]⟩
abbrev S200x5 : Shape := ⟨2, ![200, 5]⟩
abbrev S1005x768 : Shape := ⟨2, ![1005, 768]⟩
abbrev S_ : Shape := ⟨0, ![]⟩
abbrev S1024x768 : Shape := ⟨2, ![1024, 768]⟩
abbrev S1x1000 : Shape := ⟨2, ![1, 1000]⟩
abbrev S1x1024 : Shape := ⟨2, ![1, 1024]⟩
abbrev S1024x256 : Shape := ⟨2, ![1024, 256]⟩
abbrev S64x256 : Shape := ⟨2, ![64, 256]⟩
abbrev S768x1024 : Shape := ⟨2, ![768, 1024]⟩
abbrev S2x4x256x768 : Shape := ⟨4, ![2, 4, 256, 768]⟩
abbrev S64x1024 : Shape := ⟨2, ![64, 1024]⟩
abbrev S5 : Shape := ⟨1, ![5]⟩
abbrev S1 : Shape := ⟨1, ![1]⟩
abbrev S1x4x256x768 : Shape := ⟨4, ![1, 4, 256, 768]⟩
abbrev S4x256x768 : Shape := ⟨3, ![4, 256, 768]⟩
abbrev S1024 : Shape := ⟨1, ![1024]⟩
abbrev S1024x1 : Shape := ⟨2, ![1024, 1]⟩
abbrev S1024x1024 : Shape := ⟨2, ![1024, 1024]⟩
abbrev S4x256x1024 : Shape := ⟨3, ![4, 256, 1024]⟩
abbrev S4x1024 : Shape := ⟨2, ![4, 1024]⟩
abbrev S1x1x1024 : Shape := ⟨3, ![1, 1, 1024]⟩
abbrev S1x1x1 : Shape := ⟨3, ![1, 1, 1]⟩
abbrev S1x256 : Shape := ⟨2, ![1, 256]⟩
abbrev S64x200 : Shape := ⟨2, ![64, 200]⟩

abbrev nBuf : Space → Nat
  | .hbm => 35
  | .vmem => 7
  | .smem => 0
  | _ => 0

abbrev bufTy : (tb : Table) → Fin (tcTables nBuf tb) → BufTy
  | .hbm, ⟨0, _⟩ => ⟨S64x256x768, .f32⟩
  | .hbm, ⟨1, _⟩ => ⟨S201x5x768, .f32⟩
  | .hbm, ⟨2, _⟩ => ⟨S200x5, .f32⟩
  | .hbm, ⟨3, _⟩ => ⟨S1005x768, .f32⟩
  | .hbm, ⟨4, _⟩ => ⟨S_, .i32⟩
  | .hbm, ⟨5, _⟩ => ⟨S_, .f32⟩
  | .hbm, ⟨6, _⟩ => ⟨S1024x768, .f32⟩
  | .hbm, ⟨7, _⟩ => ⟨S1x1000, .f32⟩
  | .hbm, ⟨8, _⟩ => ⟨S_, .f32⟩
  | .hbm, ⟨9, _⟩ => ⟨S_, .f32⟩
  | .hbm, ⟨10, _⟩ => ⟨S1x1024, .f32⟩
  | .hbm, ⟨11, _⟩ => ⟨S1024x256, .i32⟩
  | .hbm, ⟨12, _⟩ => ⟨S_, .i32⟩
  | .hbm, ⟨13, _⟩ => ⟨S_, .i32⟩
  | .hbm, ⟨14, _⟩ => ⟨S1024x256, .i32⟩
  | .hbm, ⟨15, _⟩ => ⟨S1024x256, .i32⟩
  | .hbm, ⟨16, _⟩ => ⟨S1024x256, .i32⟩
  | .hbm, ⟨17, _⟩ => ⟨S_, .i32⟩
  | .hbm, ⟨18, _⟩ => ⟨S1024x256, .i32⟩
  | .hbm, ⟨19, _⟩ => ⟨S1024x256, .i1⟩
  | .hbm, ⟨20, _⟩ => ⟨S1024x256, .i32⟩
  | .hbm, ⟨21, _⟩ => ⟨S1024x256, .i32⟩
  | .hbm, ⟨22, _⟩ => ⟨S_, .i32⟩
  | .hbm, ⟨23, _⟩ => ⟨S1024x256, .i32⟩
  | .hbm, ⟨24, _⟩ => ⟨S1024x256, .i1⟩
  | .hbm, ⟨25, _⟩ => ⟨S1024x256, .i1⟩
  | .hbm, ⟨26, _⟩ => ⟨S_, .i32⟩
  | .hbm, ⟨27, _⟩ => ⟨S1024x256, .i32⟩
  | .hbm, ⟨28, _⟩ => ⟨S1024x256, .i32⟩
  | .hbm, ⟨29, _⟩ => ⟨S1024x256, .i32⟩
  | .hbm, ⟨30, _⟩ => ⟨S1024x256, .i32⟩
  | .hbm, ⟨31, _⟩ => ⟨S1024x256, .i1⟩
  | .hbm, ⟨32, _⟩ => ⟨S1024x256, .bf16⟩
  | .hbm, ⟨33, _⟩ => ⟨S64x256, .f32⟩
  | .hbm, ⟨34, _⟩ => ⟨S64x200, .f32⟩
  | .local _ .vmem, ⟨0, _⟩ => ⟨S64x256, .f32⟩
  | .local _ .vmem, ⟨1, _⟩ => ⟨S768x1024, .fp8e4m3⟩
  | .local _ .vmem, ⟨2, _⟩ => ⟨S1024x768, .f32⟩
  | .local _ .vmem, ⟨3, _⟩ => ⟨S1x1024, .f32⟩
  | .local _ .vmem, ⟨4, _⟩ => ⟨S1024x256, .bf16⟩
  | .local _ .vmem, ⟨5, _⟩ => ⟨S2x4x256x768, .f32⟩
  | .local _ .vmem, ⟨6, _⟩ => ⟨S64x1024, .f32⟩
  | _, _ => ⟨S64x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call2_v0 : Ref sig .tc := ⟨.hbm, 13, rfl⟩
abbrev main_call2_v1 : Ref sig .tc := ⟨.hbm, 14, rfl⟩
abbrev main_call2_v2 : Ref sig .tc := ⟨.hbm, 15, rfl⟩
abbrev main_call2_v3 : Ref sig .tc := ⟨.hbm, 16, rfl⟩
abbrev main_call2_v4 : Ref sig .tc := ⟨.hbm, 17, rfl⟩
abbrev main_call2_v5 : Ref sig .tc := ⟨.hbm, 18, rfl⟩
abbrev main_call2_v6 : Ref sig .tc := ⟨.hbm, 19, rfl⟩
abbrev main_call2_v7 : Ref sig .tc := ⟨.hbm, 20, rfl⟩
abbrev main_call2_v8 : Ref sig .tc := ⟨.hbm, 21, rfl⟩
abbrev main_call2_c : Ref sig .tc := ⟨.hbm, 22, rfl⟩
abbrev main_call2_v9 : Ref sig .tc := ⟨.hbm, 23, rfl⟩
abbrev main_call2_v10 : Ref sig .tc := ⟨.hbm, 24, rfl⟩
abbrev main_call2_v11 : Ref sig .tc := ⟨.hbm, 25, rfl⟩
abbrev main_call2_c_0 : Ref sig .tc := ⟨.hbm, 26, rfl⟩
abbrev main_call2_v12 : Ref sig .tc := ⟨.hbm, 27, rfl⟩
abbrev main_call2_v13 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "count_over_temp" => some ((335544320 / 13421773 : ℝ) : EReal)
  | _ => none
-- ==== ReferenceIdeal.lean ====
abbrev S64x256x768 : Shape := ⟨3, ![64, 256, 768]⟩
abbrev S201x5x768 : Shape := ⟨3, ![201, 5, 768]⟩
abbrev S200x5 : Shape := ⟨2, ![200, 5]⟩
abbrev S_ : Shape := ⟨0, ![]⟩
abbrev S64x256 : Shape := ⟨2, ![64, 256]⟩
abbrev S64x256x1 : Shape := ⟨3, ![64, 256, 1]⟩
abbrev S201x5 : Shape := ⟨2, ![201, 5]⟩
abbrev S201x5x1 : Shape := ⟨3, ![201, 5, 1]⟩
abbrev S64x256x201x5 : Shape := ⟨4, ![64, 256, 201, 5]⟩
abbrev S64x201x5 : Shape := ⟨3, ![64, 201, 5]⟩
abbrev S64x200x5 : Shape := ⟨3, ![64, 200, 5]⟩
abbrev S200 : Shape := ⟨1, ![200]⟩
abbrev S200x1 : Shape := ⟨2, ![200, 1]⟩
abbrev S1x200x5 : Shape := ⟨3, ![1, 200, 5]⟩
abbrev S64x200 : Shape := ⟨2, ![64, 200]⟩

abbrev nBuf : Space → Nat
  | .hbm => 52
  | .vmem => 0
  | .smem => 0
  | _ => 0

abbrev bufTy : (tb : Table) → Fin (tcTables nBuf tb) → BufTy
  | .hbm, ⟨0, _⟩ => ⟨S64x256x768, .f32⟩
  | .hbm, ⟨1, _⟩ => ⟨S201x5x768, .f32⟩
  | .hbm, ⟨2, _⟩ => ⟨S200x5, .f32⟩
  | .hbm, ⟨3, _⟩ => ⟨S64x256x768, .f32⟩
  | .hbm, ⟨4, _⟩ => ⟨S_, .f32⟩
  | .hbm, ⟨5, _⟩ => ⟨S64x256, .f32⟩
  | .hbm, ⟨6, _⟩ => ⟨S64x256x1, .f32⟩
  | .hbm, ⟨7, _⟩ => ⟨S64x256x1, .f32⟩
  | .hbm, ⟨8, _⟩ => ⟨S_, .f32⟩
  | .hbm, ⟨9, _⟩ => ⟨S64x256x1, .f32⟩
  | .hbm, ⟨10, _⟩ => ⟨S64x256x1, .f32⟩
  | .hbm, ⟨11, _⟩ => ⟨S64x256x768, .f32⟩
  | .hbm, ⟨12, _⟩ => ⟨S64x256x768, .f32⟩
  | .hbm, ⟨13, _⟩ => ⟨S201x5x768, .f32⟩
  | .hbm, ⟨14, _⟩ => ⟨S_, .f32⟩
  | .hbm, ⟨15, _⟩ => ⟨S201x5, .f32⟩
  | .hbm, ⟨16, _⟩ => ⟨S201x5x1, .f32⟩
  | .hbm, ⟨17, _⟩ => ⟨S201x5x1, .f32⟩
  | .hbm, ⟨18, _⟩ => ⟨S_, .f32⟩
  | .hbm, ⟨19, _⟩ => ⟨S201x5x1, .f32⟩
  | .hbm, ⟨20, _⟩ => ⟨S201x5x1, .f32⟩
  | .hbm, ⟨21, _⟩ => ⟨S201x5x768, .f32⟩
  | .hbm, ⟨22, _⟩ => ⟨S201x5x768, .f32⟩
  | .hbm, ⟨23, _⟩ => ⟨S64x256x201x5, .f32⟩
  | .hbm, ⟨24, _⟩ => ⟨S_, .f32⟩
  | .hbm, ⟨25, _⟩ => ⟨S64x201x5, .f32⟩
  | .hbm, ⟨26, _⟩ => ⟨S64x200x5, .f32⟩
  | .hbm, ⟨27, _⟩ => ⟨S_, .f32⟩
  | .hbm, ⟨28, _⟩ => ⟨S200, .f32⟩
  | .hbm, ⟨29, _⟩ => ⟨S_, .f32⟩
  | .hbm, ⟨30, _⟩ => ⟨S200, .f32⟩
  | .hbm, ⟨31, _⟩ => ⟨S200, .f32⟩
  | .hbm, ⟨32, _⟩ => ⟨S200x1, .f32⟩
  | .hbm, ⟨33, _⟩ => ⟨S200x5, .f32⟩
  | .hbm, ⟨34, _⟩ => ⟨S200x5, .f32⟩
  | .hbm, ⟨35, _⟩ => ⟨S200x5, .f32⟩
  | .hbm, ⟨36, _⟩ => ⟨S_, .f32⟩
  | .hbm, ⟨37, _⟩ => ⟨S200, .f32⟩
  | .hbm, ⟨38, _⟩ => ⟨S200x1, .f32⟩
  | .hbm, ⟨39, _⟩ => ⟨S200x5, .f32⟩
  | .hbm, ⟨40, _⟩ => ⟨S200x5, .f32⟩
  | .hbm, ⟨41, _⟩ => ⟨S_, .f32⟩
  | .hbm, ⟨42, _⟩ => ⟨S200x5, .f32⟩
  | .hbm, ⟨43, _⟩ => ⟨S200x5, .f32⟩
  | .hbm, ⟨44, _⟩ => ⟨S1x200x5, .f32⟩
  | .hbm, ⟨45, _⟩ => ⟨S64x200x5, .f32⟩
  | .hbm, ⟨46, _⟩ => ⟨S64x200x5, .f32⟩
  | .hbm, ⟨47, _⟩ => ⟨S_, .f32⟩
  | .hbm, ⟨48, _⟩ => ⟨S64x200, .f32⟩
  | .hbm, ⟨49, _⟩ => ⟨S_, .f32⟩
  | .hbm, ⟨50, _⟩ => ⟨S64x200, .f32⟩
  | .hbm, ⟨51, _⟩ => ⟨S64x200, .f32⟩
  | _, _ => ⟨S64x256x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== Proof.KernelKit.lean ====
/- What the run of the launched program on machine words is stated over: the host lines around the launched region, the
   buffers they write, and the names of the buffers and counters the body works on. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- membership in a rectangle of long axes recurses once per coordinate
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s TensorCore buffer contents when the region is entered, as a valuation: after the host operations before
    the region (`hostOps0`, `hostOps0_1`, `hostOps0_2`, `hostOps0_3`, `hostOps0_4`, `hostOps0_5`, `hostOps0_6`). -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-- The host lines `hostOps0` allocate nothing. -/
theorem hostOps0_fresh : (hostOps0 : List (HloOp τ sig (Elt F))).Forall fun op => op.fresh = ∅ := by
  simp only [List.Forall]; repeat' constructor
/-- The host lines `hostOps0_1` allocate nothing. -/
theorem hostOps0_1_fresh : (hostOps0_1 : List (HloOp τ sig (Elt F))).Forall fun op => op.fresh = ∅ := by
  simp only [List.Forall]; repeat' constructor
/-- The host lines `hostOps0_2` allocate nothing. -/
theorem hostOps0_2_fresh : (hostOps0_2 : List (HloOp τ sig (Elt F))).Forall fun op => op.fresh = ∅ := by
  simp only [List.Forall]; repeat' constructor
/-- The host lines `hostOps0_3` allocate nothing. -/
theorem hostOps0_3_fresh : (hostOps0_3 : List (HloOp τ sig (Elt F))).Forall fun op => op.fresh = ∅ := by
  simp only [List.Forall]; repeat' constructor
/-- The host lines `hostOps0_4` allocate nothing. -/
theorem hostOps0_4_fresh : (hostOps0_4 : List (HloOp τ sig (Elt F))).Forall fun op => op.fresh = ∅ := by
  simp only [List.Forall]; repeat' constructor
/-- The host lines `hostOps0_5` allocate nothing. -/
theorem hostOps0_5_fresh : (hostOps0_5 : List (HloOp τ sig (Elt F))).Forall fun op => op.fresh = ∅ := by
  simp only [List.Forall]; repeat' constructor
/-- The host lines `hostOps0_6` allocate nothing. -/
theorem hostOps0_6_fresh : (hostOps0_6 : List (HloOp τ sig (Elt F))).Forall fun op => op.fresh = ∅ := by
  simp only [List.Forall]; repeat' constructor
/-- The host lines `hostOps1` allocate nothing. -/
theorem hostOps1_fresh : (hostOps1 : List (HloOp τ sig (Elt F))).Forall fun op => op.fresh = ∅ := by
  simp only [List.Forall]; repeat' constructor

set_option maxHeartbeats 800000 in
/-- The program is its host lines before the launched region, the region, and the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The host lines after the region allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- The host lines after the region write no array the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the host lines after the region write. -/
def T0 : Finset (Ref sig .tc) := {main_v10}
/-- They write nothing else. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The frame claim's post from the frame run's -/

/-- A run that ends with every buffer the program does not write at the contents the region finds leaves the arguments
    as launched. -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c)⟩) h

/-! ## The names of what the body is run on -/

/-- The staging buffer of the output block. -/
abbrev ms0_0 (t : Fin cfg0.N) : Memref sig .tc .vmem S64x256 .f32 := win0_0.stage (cfg0.slots t 0)
/-- It is a whole buffer. -/
abbrev hs0_0 (t : Fin cfg0.N) : (ms0_0 t).IsWhole := hstage0_0 0
/-- The kernel's own scratch buffers. -/
abbrev scM0_0 : Memref sig .tc .vmem S768x1024 .fp8e4m3 := Memref.whole cc0_scratch0
abbrev scM0_1 : Memref sig .tc .vmem S1024x768 .f32 := Memref.whole cc0_scratch1
abbrev scM0_2 : Memref sig .tc .vmem S1x1024 .f32 := Memref.whole cc0_scratch2
abbrev scM0_3 : Memref sig .tc .vmem S1024x256 .bf16 := Memref.whole cc0_scratch3
abbrev scM0_4 : Memref sig .tc .vmem S2x4x256x768 .f32 := Memref.whole cc0_scratch4
abbrev scM0_5 : Memref sig .tc .vmem S64x1024 .f32 := Memref.whole cc0_scratch5
/-- The arrays left in HBM that the body copies into scratch itself. -/
abbrev hbM0_0 : Memref sig .tc .hbm S64x256x768 .f32 := Memref.whole main_arg0
abbrev hbM0_1 : Memref sig .tc .hbm S1024x768 .f32 := Memref.whole main_v1
abbrev hbM0_2 : Memref sig .tc .hbm S1x1024 .f32 := Memref.whole main_v3
abbrev hbM0_3 : Memref sig .tc .hbm S1024x256 .bf16 := Memref.whole main_v8
/-- The contents of memref `M`'s buffer on core `c`. -/
abbrev HbBuf0 (c : Dev nD) {sp : Space} {S : Shape} {e : EltTy} (M : Memref sig .tc sp S e) : Type := Buf (Elt F) (M.view.loc (c : Thread nD τ))
/-- Memref `M`'s buffer on core `c`, held whole at `f`. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The counters of the body's own transfers. -/
abbrev osem0 : Fin 5 → SemLoc sig := fun j => (![SemLoc.dma 1, SemLoc.dma 2, SemLoc.dma 3, SemLoc.dma 4, SemLoc.dma 5] : Fin 5 → SemLoc sig) j
/-- No window uses one of those counters. -/
theorem ownSemFacts0 : Pipeline.OwnSemFacts spec0 osem0 := by decide
/-- Those counters at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0) := by
  rw [Pipeline.ownSems0_eq_of_list c osem0 [0, 1, 2, 3, 4] (by decide) (by decide)]; rfl
/-- The arrays the body copies from, as references. -/
def H0 : Finset (Ref sig .tc) := {main_arg0, main_v1, main_v3, main_v8}
/-- None of them is a window's array. -/
theorem H0_sub : H0 ⊆ Pipeline.restRefs sig spec0 := by decide
/-- The host lines after the region touch none of the arrays the body copies from. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Those arrays at the contents the region finds, one by one. -/
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_v1) ∗ hbPt0 c hbM0_2 (V m c main_v3) ∗ hbPt0 c hbM0_3 (V m c main_v8)) := by
  rw [BI.bigSep_eq_bigSepL_of_eq [main_arg0, main_v1, main_v3, main_v8] (by decide) (by decide)]; rfl

/-- What the body keeps from one point to the next, part by part: the scratch at some contents, the generator register
    at some state, its own counters at zero, and the arrays it copies from at the contents the region finds. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0) ∗ iprop(hbPt0 c hbM0_0 (V m c main_arg0) ∗ hbPt0 c hbM0_1 (V m c main_v1) ∗ hbPt0 c hbM0_2 (V m c main_v3) ∗ hbPt0 c hbM0_3 (V m c main_v8))) := by
  rw [Pipeline.ΦD_eq, scopedRest0_eq, ownSems00_eq, hbmPts0_eq]; simp only [scM0_0, scM0_1, scM0_2, scM0_3, scM0_4, scM0_5, owns_whole]; try rfl

end Cert.Kernel.Run

end
-- ==== Proof.KernelRun.lean ====
/- The run of the launched body on machine words, at any contents of the arrays it reads: every transfer it starts is
   waited for, and its counters end at zero. -/
module

public import proofs.«01_k».proof.Proof.KernelKit

@[expose] public section

-- membership in a rectangle of long axes recurses once per coordinate
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 1532000 in set_option sl_exec.dmaWindow true in set_option sl_exec.dmaWindowSet true in
/-- The body, run on whole staging buffers of any contents, its own counters at zero and the four arrays it reads at
    contents `fh0`, …, `fh3`, reaches its end with the counters at zero and the arrays as they were. -/
theorem kernelRun0_A (c : Dev nD) (arg4 : Memref sig .tc .vmem S64x256 .f32) (harg4 : arg4.IsWhole) (arg5 : Memref sig .tc .vmem S768x1024 .fp8e4m3) (harg5 : arg5.IsWhole) (arg6 : Memref sig .tc .vmem S1024x768 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S2x4x256x768 .f32) (harg9 : arg9.IsWhole) (arg10 : Memref sig .tc .vmem S64x1024 .f32) (harg10 : arg10.IsWhole)
     (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop((∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ hbPt0 c hbM0_0 fh0 ∗ hbPt0 c hbM0_1 fh1 ∗ hbPt0 c hbM0_2 fh2 ∗ hbPt0 c hbM0_3 fh3 ∗ owes (c : Thread nD τ) 0 W
            ∗ (iprop((∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0__body (Memref.whole main_arg0) (Memref.isWhole_whole _) (Memref.whole main_v1) (Memref.isWhole_whole _) (Memref.whole main_v3) (Memref.isWhole_whole _) (Memref.whole main_v8) (Memref.isWhole_whole _) arg4 harg4 arg5 harg5 arg6 harg6 arg7 harg7 arg8 harg8 arg9 harg9 arg10 harg10 cc0_scratch6) K := by
    intro W K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%d0, %f0, -, H0⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hh0, Hh1, Hh2, Hh3, HW, Hk⟩
    sl_exec
    sl_step
    iapply Hk
    isplitl [H0]
    · iexists _, _; isplitr; swap; · iexact H0
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [Hh2]; · iexact Hh2
    isplitl [Hh3]; · iexact Hh3
    iexists _; iexact HW

end Cert.Kernel.Run

end
-- ==== Proof.KernelFrame.lean ====
/- The launched program on machine words, run whole: it ends with its arguments unchanged and its counters at zero. -/
module

public import proofs.«01_k».proof.Proof.KernelRun
public import Idealize.ShloMosaic.Lib.Claim

@[expose] public section

-- membership in a rectangle of long axes recurses once per coordinate
set_option maxRecDepth 16384

noncomputable section

namespace Cert.Kernel.Run

open Cert.Kernel.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The one window is an output whose contents are not stated. -/
def forgets0 : Fin 1 → Bool := fun w => w.val == 0

/-- The data of the launch: nothing is said of the output block; the body keeps its scratch, its counters at zero and
    the arrays it copies from. -/
def dats (_ : Fin 1) (c : Dev nD) : Dat τ (Elt F) Unit ℕ (Pipeline.UD sig nD τ) ℕ cfg0 c where
  A w := V m c (Pipeline.arrRef spec0 w)
  after w t := match w with
    | ⟨0, h⟩ => Pipeline.Dat.unnamed (cfg := cfg0) ⟨0, h⟩ t
  Φ _ := Pipeline.ΦD osem0 spec0 H0 (V m) c
  q _ := fullShare
  owed _ := 0

/-- The arrays of the launch are the contents the region finds. -/
theorem A_eq (c : Dev nD) (w : Fin cfg0.W) : (dats m 0 c).A w = V m c (Pipeline.arrRef spec0 w) := by
  dsimp only [dats]

/-! ## The body obligation, at a generic point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare d))

/-- What the body returns. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare d))

/-- The body takes the first to the second, at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4, HS5⟩, Hg, ⟨Hq0, Hq1, Hq2, Hq3, Hq4⟩, ⟨Hh0, Hh1, Hh2, Hh3⟩⟩, ⟨%W, -, HW⟩, ⟨%d0, H0⟩⟩
  iapply ((kernelRun0_A c _ _ _ _ _ _ _ _ _ _ _ _ _ _  (V m c main_arg0) (V m c main_v1) (V m c main_v3) (V m c main_v8)) W _)
  isplitl [H0]; · iexists _; iexact H0
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [HW]; · iexact HW
  iintro ⟨H0, HS0, HS1, HS2, HS3, HS4, HS5, Hq0, Hq1, Hq2, Hq3, Hq4, Hh0, Hh1, Hh2, Hh3, ⟨%W', HW'⟩⟩
  isplitl [HS0 HS1 HS2 HS3 HS4 HS5 Hg Hq0 Hq1 Hq2 Hq3 Hq4 Hh0 Hh1 Hh2 Hh3]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]
    · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  iexact H0

/-- The body the launch calls is the kernel's body. -/
theorem defs₀_row (t : Fin cfg0.N) :
    defs₀ (F := F) .tc cfg0.body (cfg0.bodyArgs t (cfg0.slots t)) = bodyAt0 t := by
  unfold defs₀; rw [Defs.onTc_tc]

/-- So the body does what the launch asks of it. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the launch theorem's implicit arguments are found by unfolding plain definitions in a metavariable's type
set_option backward.isDefEq.respectTransparency.types false in
set_option maxHeartbeats 800000 in
/-- The whole program ends with every buffer it does not write at the contents the region finds and every counter at
    zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_dma_around_T_forget (Q' := _) cfgs (dats m) (0 : Fin 1) launch0 osem0 defs₀ Variants.none forgets0 ownSemFacts0 H0 T0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps) (hT := sfx_writes)
    (hmain := hmain m Variants.none) (hA := A_eq m) (hin := fun _ => .rfl) (hout := fun _ => .rfl)

/-- The same without the counters. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end
-- ==== Proof.IdealKit.lean ====
/- What the run of the launched program on ideal numbers is stated over: the host lines around the launched region, the
   buffers they write, and the names of the buffers and counters the body works on. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- membership in a rectangle of long axes recurses once per coordinate
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## @main around the region -/

/-- Core `c`'s TensorCore buffer contents when the region is entered, as a valuation: after the host operations before
    the region (`hostOps0`, `hostOps0_1`, `hostOps0_2`, `hostOps0_3`, `hostOps0_4`, `hostOps0_5`, `hostOps0_6`). -/
abbrev V0 (c : Dev nD) : Valuation τ sig (Elt F) := StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

/-- The host lines `hostOps0` allocate nothing. -/
theorem hostOps0_fresh : (hostOps0 : List (HloOp τ sig (Elt F))).Forall fun op => op.fresh = ∅ := by
  simp only [List.Forall]; repeat' constructor
/-- The host lines `hostOps0_1` allocate nothing. -/
theorem hostOps0_1_fresh : (hostOps0_1 : List (HloOp τ sig (Elt F))).Forall fun op => op.fresh = ∅ := by
  simp only [List.Forall]; repeat' constructor
/-- The host lines `hostOps0_2` allocate nothing. -/
theorem hostOps0_2_fresh : (hostOps0_2 : List (HloOp τ sig (Elt F))).Forall fun op => op.fresh = ∅ := by
  simp only [List.Forall]; repeat' constructor
/-- The host lines `hostOps0_3` allocate nothing. -/
theorem hostOps0_3_fresh : (hostOps0_3 : List (HloOp τ sig (Elt F))).Forall fun op => op.fresh = ∅ := by
  simp only [List.Forall]; repeat' constructor
/-- The host lines `hostOps0_4` allocate nothing. -/
theorem hostOps0_4_fresh : (hostOps0_4 : List (HloOp τ sig (Elt F))).Forall fun op => op.fresh = ∅ := by
  simp only [List.Forall]; repeat' constructor
/-- The host lines `hostOps0_5` allocate nothing. -/
theorem hostOps0_5_fresh : (hostOps0_5 : List (HloOp τ sig (Elt F))).Forall fun op => op.fresh = ∅ := by
  simp only [List.Forall]; repeat' constructor
/-- The host lines `hostOps0_6` allocate nothing. -/
theorem hostOps0_6_fresh : (hostOps0_6 : List (HloOp τ sig (Elt F))).Forall fun op => op.fresh = ∅ := by
  simp only [List.Forall]; repeat' constructor
/-- The host lines `hostOps1` allocate nothing. -/
theorem hostOps1_fresh : (hostOps1 : List (HloOp τ sig (Elt F))).Forall fun op => op.fresh = ∅ := by
  simp only [List.Forall]; repeat' constructor

set_option maxHeartbeats 800000 in
/-- The program is its host lines before the launched region, the region, and the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The host lines after the region allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- The host lines after the region write no array the region stages. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-! ## The names of what the body is run on -/

/-- The staging buffer of the output block. -/
abbrev ms0_0 (t : Fin cfg0.N) : Memref sig .tc .vmem S64x256 .f32 := win0_0.stage (cfg0.slots t 0)
/-- It is a whole buffer. -/
abbrev hs0_0 (t : Fin cfg0.N) : (ms0_0 t).IsWhole := hstage0_0 0
/-- The kernel's own scratch buffers. -/
abbrev scM0_0 : Memref sig .tc .vmem S768x1024 .fp8e4m3 := Memref.whole cc0_scratch0
abbrev scM0_1 : Memref sig .tc .vmem S1024x768 .f32 := Memref.whole cc0_scratch1
abbrev scM0_2 : Memref sig .tc .vmem S1x1024 .f32 := Memref.whole cc0_scratch2
abbrev scM0_3 : Memref sig .tc .vmem S1024x256 .bf16 := Memref.whole cc0_scratch3
abbrev scM0_4 : Memref sig .tc .vmem S2x4x256x768 .f32 := Memref.whole cc0_scratch4
abbrev scM0_5 : Memref sig .tc .vmem S64x1024 .f32 := Memref.whole cc0_scratch5
/-- The arrays left in HBM that the body copies into scratch itself. -/
abbrev hbM0_0 : Memref sig .tc .hbm S64x256x768 .f32 := Memref.whole main_arg0
abbrev hbM0_1 : Memref sig .tc .hbm S1024x768 .f32 := Memref.whole main_v1
abbrev hbM0_2 : Memref sig .tc .hbm S1x1024 .f32 := Memref.whole main_v3
abbrev hbM0_3 : Memref sig .tc .hbm S1024x256 .bf16 := Memref.whole main_v8
/-- The contents of memref `M`'s buffer on core `c`. -/
abbrev HbBuf0 (c : Dev nD) {sp : Space} {S : Shape} {e : EltTy} (M : Memref sig .tc sp S e) : Type := Buf (Elt F) (M.view.loc (c : Thread nD τ))
/-- Memref `M`'s buffer on core `c`, held whole at `f`. -/
abbrev hbPt0 (c : Dev nD) {sp : Space} {S : Shape} {e : EltTy} (M : Memref sig .tc sp S e) (f : HbBuf0 (F := F) c M) : sProp 𝕄 :=
  M.view.loc (c : Thread nD τ) ↦{fullShare} f

/-- The counters of the body's own transfers. -/
abbrev osem0 : Fin 5 → SemLoc sig := fun j => (![SemLoc.dma 1, SemLoc.dma 2, SemLoc.dma 3, SemLoc.dma 4, SemLoc.dma 5] : Fin 5 → SemLoc sig) j
/-- No window uses one of those counters. -/
theorem ownSemFacts0 : Pipeline.OwnSemFacts spec0 osem0 := by decide
/-- Those counters at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0) := by
  rw [Pipeline.ownSems0_eq_of_list c osem0 [0, 1, 2, 3, 4] (by decide) (by decide)]; rfl
/-- The arrays the body copies from, as references. -/
def H0 : Finset (Ref sig .tc) := {main_arg0, main_v1, main_v3, main_v8}
/-- None of them is a window's array. -/
theorem H0_sub : H0 ⊆ Pipeline.restRefs sig spec0 := by decide
/-- The host lines after the region touch none of the arrays the body copies from. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Those arrays at the contents the region finds, one by one. -/
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_v1) ∗ hbPt0 c hbM0_2 (V m c main_v3) ∗ hbPt0 c hbM0_3 (V m c main_v8)) := by
  rw [BI.bigSep_eq_bigSepL_of_eq [main_arg0, main_v1, main_v3, main_v8] (by decide) (by decide)]; rfl

/-- What the body keeps from one point to the next, part by part: the scratch at some contents, the generator register
    at some state, its own counters at zero, and the arrays it copies from at the contents the region finds. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0) ∗ iprop(hbPt0 c hbM0_0 (V m c main_arg0) ∗ hbPt0 c hbM0_1 (V m c main_v1) ∗ hbPt0 c hbM0_2 (V m c main_v3) ∗ hbPt0 c hbM0_3 (V m c main_v8))) := by
  rw [Pipeline.ΦD_eq, scopedRest0_eq, ownSems00_eq, hbmPts0_eq]; simp only [scM0_0, scM0_1, scM0_2, scM0_3, scM0_4, scM0_5, owns_whole]; try rfl

end Cert.KernelIdeal.Run

end
-- ==== Proof.Slots.lean ====
/- The two-slot staging buffer of the kernel, read and written: a load of the slot that a copy has just filled reads the
   copied block, a load of the other slot reads what was there before the copy; and a 64-row buffer stored four rows at a
   time, read whole, is the stack of the stored blocks. -/
module

public import proofs.«01_k».proof.Proof.Gen.KernelIdeal
public import Idealize.ShloMosaic.Lib.Pipeline.Value
public import Idealize.ShloMosaic.Lib.Exec
public import Idealize.ShloMosaic.Lib.Tactic

@[expose] public section

noncomputable section

namespace Cert.Slots

open Cert.KernelIdeal Idealize.ShloMosaic Idealize.ShloMosaic.Tactic

variable {sg : RefSig} {κ : Kind} {cs : Space} {Val : EltTy → Type}

/-- A load through a memref at a rectangle, after a block was written whole through the squeeze of the slice at that
    rectangle, reads the block, place by row-major place. -/
theorem load_filled {s s' : Shape} {e : EltTy} (M : Memref sg κ cs s e) (r : Rect s) (hr : ∀ a, r.stride a = 1)
    (hq : r.shape.Squeezes s') (f : M.view.ty.Contents Val) (d : s'.Idx → Val e) :
    M.view.readAt Val r.toLoadRect (((M.slice r hr).squeeze s' hq).view.write Val f d Finset.univ)
      = fun x => d ((Shape.reshapeEquiv hq.numel_eq).symm x) := by
  funext x
  have h : ((M.slice r hr).squeeze s' hq).view.read Val (((M.slice r hr).squeeze s' hq).view.write Val f d Finset.univ)
      = d := by
    exact View.read_write_univ _ _
  have h' := congrFun h ((Shape.reshapeEquiv hq.numel_eq).symm x)
  rw [← h']
  show _ = M.view.readAt Val r.toLoadRect _ (Shape.reshapeEquiv hq.numel_eq ((Shape.reshapeEquiv hq.numel_eq).symm x))
  rw [Equiv.apply_symm_apply]

/-- A load at a rectangle that shares no place with another one does not see a block written through the squeeze of the
    slice at that other one. -/
theorem load_other {s s' : Shape} {e : EltTy} (M : Memref sg κ cs s e) (r r' : Rect s) (hr' : ∀ a, r'.stride a = 1)
    (hq' : r'.shape.Squeezes s') (hd : ∀ x, r.emb x ∉ r'.set) (f : M.view.ty.Contents Val) (d : s'.Idx → Val e) :
    M.view.readAt Val r.toLoadRect (((M.slice r' hr').squeeze s' hq').view.write Val f d Finset.univ)
      = M.view.readAt Val r.toLoadRect f := by
  funext x
  have h : ((M.slice r' hr').squeeze s' hq').view.write Val f d Finset.univ
      = (M.view.slice r').write Val f (fun x => d ((Shape.reshapeEquiv hq'.numel_eq).symm x)) Finset.univ :=
    View.write_reshape_univ (M.view.slice r') hq'.numel_eq f d
  rw [h]
  show M.view.read Val _ (r.emb x) = M.view.read Val f (r.emb x)
  apply View.read_slice_write_of_not_mem
  rw [Rect.map_emb_univ]
  exact hd x

/-- Slot `a` of the staging buffer shares no place with slot `b`. -/
theorem slot_ne {a b : ℕ} (hab : a ≠ b) (ha) (hb) (x) :
    (Rect.unit (s := S2x4x256x768) ![a, 0, 0, 0] S1x4x256x768.size ha).emb x
      ∉ (Rect.unit (s := S2x4x256x768) ![b, 0, 0, 0] S1x4x256x768.size hb).set := by
  refine Rect.not_mem_set_of_axis _ _ (0 : Fin 4) b 1 rfl rfl rfl ?_
  have h : ((Rect.unit (s := S2x4x256x768) ![a, 0, 0, 0] S1x4x256x768.size ha).emb x (0 : Fin 4)).val = a + 1 * (x (0 : Fin 4)).val := rfl
  have hx : (x (0 : Fin 4)).val < 1 := (x (0 : Fin 4)).isLt
  omega

/-- Images `4 i`, …, `4 i + 3` of a stack of sixty-four. -/
def images {α : Type} (x : S64x256x768.Idx → α) (i : Fin 16) : S4x256x768.Idx → α := fun j =>
  x fun a => match a with
    | ⟨0, _⟩ => (⟨4 * i.val + (j 0).val, by have h : (j 0).val < 4 := (j 0).isLt; have := i.isLt; show _ < 64; omega⟩ : Fin 64)
    | ⟨1, _⟩ => j 1
    | ⟨2, _⟩ => j 2

/-- What a slot holds once the block `d` was copied into it: `d` under a leading axis of length one. -/
def held {α : Type} (d : S4x256x768.Idx → α) : S1x4x256x768.Idx → α := fun x =>
  d ((Shape.reshapeEquiv (s := S1x4x256x768) (s' := S4x256x768) Gen.squeezes_S1x4x256x768_S4x256x768.numel_eq).symm x)

/-- Four images read out of the array that holds all of them. -/
theorem read_images {e : EltTy} (M : Memref sg κ cs S64x256x768 e) (f : M.view.ty.Contents Val) (i : Fin 16)
    (inb : ∀ a, (![4 * i.val, 0, 0] : Fin 3 → ℕ) a + S4x256x768.size a ≤ S64x256x768.size a)
    (hs : ∀ a, (Rect.unit (s := S64x256x768) ![4 * i.val, 0, 0] S4x256x768.size inb).stride a = 1) :
    (M.slice (Rect.unit ![4 * i.val, 0, 0] S4x256x768.size inb) hs).view.read Val f = images (M.view.read Val f) i := by
  funext j
  show M.view.read Val f ((Rect.unit (s := S64x256x768) ![4 * i.val, 0, 0] S4x256x768.size inb).emb j) = _
  unfold images
  congr 1
  funext a
  apply Fin.ext
  have h : ((Rect.unit (s := S64x256x768) ![4 * i.val, 0, 0] S4x256x768.size inb).emb j a).val
      = (![4 * i.val, 0, 0] : Fin 3 → ℕ) a + 1 * (j a).val := rfl
  rw [h]
  match a with
  | ⟨0, _⟩ => show 4 * i.val + 1 * (j 0).val = 4 * i.val + (j 0).val; omega
  | ⟨1, _⟩ => show 0 + 1 * (j 1).val = (j 1).val; omega
  | ⟨2, _⟩ => show 0 + 1 * (j 2).val = (j 2).val; omega

/-- Sixteen blocks of four rows, one under the other. -/
def stack {α : Type} (P : Fin 16 → S4x1024.Idx → α) : S64x1024.Idx → α := fun y =>
  P ⟨(y 0).val / 4, by have h : (y 0).val < 64 := (y 0).isLt; omega⟩ fun a => match a with
    | ⟨0, _⟩ => (⟨(y 0).val % 4, by show _ < 4; omega⟩ : Fin 4)
    | ⟨1, _⟩ => y 1

/-- A block of the stack is found at its own four rows. -/
theorem stack_at {α : Type} (P : Fin 16 → S4x1024.Idx → α) (i : Fin 16) (inb) (x) :
    P i x = stack P ((Rect.unit (s := S64x1024) ![4 * i.val, 0] S4x1024.size inb).emb x) := by
  have h0 : (((Rect.unit (s := S64x1024) ![4 * i.val, 0] S4x1024.size inb).emb x) 0).val = 4 * i.val + 1 * (x 0).val := rfl
  have h1 : (((Rect.unit (s := S64x1024) ![4 * i.val, 0] S4x1024.size inb).emb x) 1).val = 0 + 1 * (x 1).val := rfl
  have hx : (x 0).val < 4 := (x 0).isLt
  unfold stack
  have hi : (⟨(((Rect.unit (s := S64x1024) ![4 * i.val, 0] S4x1024.size inb).emb x) 0).val / 4, by
      have := i.isLt; omega⟩ : Fin 16) = i := Fin.ext (by show _ / 4 = i.val; omega)
  rw [hi]
  congr 1
  funext a
  apply Fin.ext
  match a with
  | ⟨0, _⟩ => show (x 0).val = (((Rect.unit (s := S64x1024) ![4 * i.val, 0] S4x1024.size inb).emb x) 0).val % 4; omega
  | ⟨1, _⟩ => show (x 1).val = (((Rect.unit (s := S64x1024) ![4 * i.val, 0] S4x1024.size inb).emb x) 1).val; omega

/-- The row buffer, stored block by block and then read whole, reads the stack of the blocks. -/
theorem read_stack [∀ e, Nonempty (Val e)] {sp : Space} {e : EltTy} (v : View sg κ sp S64x1024 e)
    (P : Fin 16 → S4x1024.Idx → Val e) (h0) (h1) (h2) (h3) (h4) (h5) (h6) (h7) (h8) (h9) (h10) (h11) (h12) (h13) (h14) (h15) (hw) :
    v.readCov [⟨Rect.unit ![60, 0] S4x1024.size h15, P 15⟩, ⟨Rect.unit ![56, 0] S4x1024.size h14, P 14⟩, ⟨Rect.unit ![52, 0] S4x1024.size h13, P 13⟩, ⟨Rect.unit ![48, 0] S4x1024.size h12, P 12⟩, ⟨Rect.unit ![44, 0] S4x1024.size h11, P 11⟩, ⟨Rect.unit ![40, 0] S4x1024.size h10, P 10⟩, ⟨Rect.unit ![36, 0] S4x1024.size h9, P 9⟩, ⟨Rect.unit ![32, 0] S4x1024.size h8, P 8⟩, ⟨Rect.unit ![28, 0] S4x1024.size h7, P 7⟩, ⟨Rect.unit ![24, 0] S4x1024.size h6, P 6⟩, ⟨Rect.unit ![20, 0] S4x1024.size h5, P 5⟩, ⟨Rect.unit ![16, 0] S4x1024.size h4, P 4⟩, ⟨Rect.unit ![12, 0] S4x1024.size h3, P 3⟩, ⟨Rect.unit ![8, 0] S4x1024.size h2, P 2⟩, ⟨Rect.unit ![4, 0] S4x1024.size h1, P 1⟩, ⟨Rect.unit ![0, 0] S4x1024.size h0, P 0⟩] (Rect.unit ![0, 0] S64x1024.size hw).toLoadRect = stack P := by
  funext y
  have hy : (Rect.unit (s := S64x1024) ![0, 0] S64x1024.size hw).toLoadRect.idx y = y := by
    funext a
    apply Fin.ext
    match a with
    | ⟨0, _⟩ => show 0 + 1 * (y 0).val = (y 0).val; omega
    | ⟨1, _⟩ => show 0 + 1 * (y 1).val = (y 1).val; omega
  unfold View.readCov
  rw [View.readAt_apply, hy]
  apply View.read_writes_apply_of_pieces
  · simp only [List.forall_mem_cons]
    exact ⟨fun x => stack_at P 15 h15 x, fun x => stack_at P 14 h14 x, fun x => stack_at P 13 h13 x, fun x => stack_at P 12 h12 x, fun x => stack_at P 11 h11 x, fun x => stack_at P 10 h10 x, fun x => stack_at P 9 h9 x, fun x => stack_at P 8 h8 x, fun x => stack_at P 7 h7 x, fun x => stack_at P 6 h6 x, fun x => stack_at P 5 h5 x, fun x => stack_at P 4 h4 x, fun x => stack_at P 3 h3 x, fun x => stack_at P 2 h2 x, fun x => stack_at P 1 h1 x, fun x => stack_at P 0 h0 x, by simp⟩
  · exact View.cover_of_tiled _ ![4, 1024] (by sl_kernel_rfl) y

end Cert.Slots
-- ==== Proof.Launched.lean ====
/- What the launched body leaves in its output block, as one function of the four arrays it reads: the images, the
   prototypes (one per row, padded), the weights (one per column, padded) and the table that sends a prototype to its class. -/
module

public import proofs.«01_k».proof.Proof.Gen.KernelIdeal.Skeleton
public import proofs.«01_k».proof.Proof.Slots

@[expose] public section

noncomputable section

namespace Cert.Launched

open Cert.KernelIdeal Cert.KernelIdeal.Gen Cert.Slots Idealize.ShloMosaic

variable {F : FTy → Type} [FloatOps F] [Named F]

/-- The best match of every prototype in each of the four images of block `i`. -/
def block (x : Vec F S64x256x768 .f32) (p : Vec F S1024x768 .f32) (i : Fin 16) : FVec F S4x1024 .f32 :=
  k0_pay3 (held (images x i)) (k0_pay2 p)

/-- The whole output block. -/
def out (x : Vec F S64x256x768 .f32) (p : Vec F S1024x768 .f32) (w : Vec F S1x1024 .f32) (t : Vec F S1024x256 .bf16) :
    FVec F S64x256 .f32 :=
  k0_pay1 t (k0_pay36 w t (stack (block x p))) (k0_pay37 w) (constant S1x256 .f32 0x00000000#32)

variable (a : Vec F S1x4x256x768 .f32) (b : Vec F S768x1024 .fp8e4m3)

/-! The sixteen blocks are computed by one function: the text of the kernel cuts it at different places. -/

theorem pay4_eq : k0_pay4 a b = k0_pay3 a b := rfl
theorem pay6_eq : k0_pay6 (k0_pay5 a b) = k0_pay3 a b := rfl
theorem pay8_eq : k0_pay8 (k0_pay7 a b) = k0_pay3 a b := rfl
theorem pay10_eq : k0_pay10 (k0_pay9 a b) = k0_pay3 a b := rfl
theorem pay12_eq : k0_pay12 (k0_pay11 a) b = k0_pay3 a b := rfl
theorem pay14_eq : k0_pay14 (k0_pay13 a) b = k0_pay3 a b := rfl
theorem pay18_eq : k0_pay18 (k0_pay15 a) (k0_pay16 a) k0_pay17 b = k0_pay3 a b := rfl
theorem pay22_eq : k0_pay22 (k0_pay19 a) (k0_pay20 a) k0_pay21 b = k0_pay3 a b := rfl
theorem pay25_eq : k0_pay25 (k0_pay23 a) (k0_pay24 a) b = k0_pay3 a b := rfl
theorem pay28_eq : k0_pay28 (k0_pay26 a) (k0_pay27 a) b = k0_pay3 a b := rfl
theorem pay29_eq : k0_pay29 a b = k0_pay3 a b := rfl
theorem pay30_eq : k0_pay30 a b = k0_pay3 a b := rfl
theorem pay31_eq : k0_pay31 a b = k0_pay3 a b := rfl
theorem pay32_eq : k0_pay32 a b = k0_pay3 a b := rfl
theorem pay34_eq : k0_pay34 (k0_pay33 a) b = k0_pay3 a b := rfl

/-- The row buffer, stored one block of four images at a time and then read whole, reads the stack of the blocks. -/
theorem read_blocks {κ : Kind} {sp : Space} (v : View sig κ sp S64x1024 .f32) (x : Vec F S64x256x768 .f32)
    (p : Vec F S1024x768 .f32) (h0) (h1) (h2) (h3) (h4) (h5) (h6) (h7) (h8) (h9) (h10) (h11) (h12) (h13) (h14) (h15) (hw) :
    v.readCov (Val := Elt F) [⟨Rect.unit ![60, 0] S4x1024.size h15, k0_pay3 (held (images x 15)) (k0_pay2 p)⟩, ⟨Rect.unit ![56, 0] S4x1024.size h14, k0_pay3 (held (images x 14)) (k0_pay2 p)⟩, ⟨Rect.unit ![52, 0] S4x1024.size h13, k0_pay3 (held (images x 13)) (k0_pay2 p)⟩, ⟨Rect.unit ![48, 0] S4x1024.size h12, k0_pay3 (held (images x 12)) (k0_pay2 p)⟩, ⟨Rect.unit ![44, 0] S4x1024.size h11, k0_pay3 (held (images x 11)) (k0_pay2 p)⟩, ⟨Rect.unit ![40, 0] S4x1024.size h10, k0_pay3 (held (images x 10)) (k0_pay2 p)⟩, ⟨Rect.unit ![36, 0] S4x1024.size h9, k0_pay3 (held (images x 9)) (k0_pay2 p)⟩, ⟨Rect.unit ![32, 0] S4x1024.size h8, k0_pay3 (held (images x 8)) (k0_pay2 p)⟩, ⟨Rect.unit ![28, 0] S4x1024.size h7, k0_pay3 (held (images x 7)) (k0_pay2 p)⟩, ⟨Rect.unit ![24, 0] S4x1024.size h6, k0_pay3 (held (images x 6)) (k0_pay2 p)⟩, ⟨Rect.unit ![20, 0] S4x1024.size h5, k0_pay3 (held (images x 5)) (k0_pay2 p)⟩, ⟨Rect.unit ![16, 0] S4x1024.size h4, k0_pay3 (held (images x 4)) (k0_pay2 p)⟩, ⟨Rect.unit ![12, 0] S4x1024.size h3, k0_pay3 (held (images x 3)) (k0_pay2 p)⟩, ⟨Rect.unit ![8, 0] S4x1024.size h2, k0_pay3 (held (images x 2)) (k0_pay2 p)⟩, ⟨Rect.unit ![4, 0] S4x1024.size h1, k0_pay3 (held (images x 1)) (k0_pay2 p)⟩, ⟨Rect.unit ![0, 0] S4x1024.size h0, k0_pay3 (held (images x 0)) (k0_pay2 p)⟩] (Rect.unit ![0, 0] S64x1024.size hw).toLoadRect = stack (block x p) :=
  read_stack (Val := Elt F) v (block x p) h0 h1 h2 h3 h4 h5 h6 h7 h8 h9 h10 h11 h12 h13 h14 h15 hw

end Cert.Launched
-- ==== Proof.IdealRun.lean ====
/- The run of the launched body at any contents of the arrays it reads: every transfer it starts is waited for, its
   counters end at zero, and its output block ends at `Launched.out` of those arrays. -/
module

public import proofs.«01_k».proof.Proof.IdealKit
public import proofs.«01_k».proof.Proof.Launched
public import Idealize.ShloMosaic.Lib.VecWindow

@[expose] public section

-- membership in a rectangle of long axes recurses once per coordinate
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 3000000 in set_option sl_exec.dmaWindow true in set_option sl_exec.dmaWindowSet true in
/-- The body, run on whole staging buffers of any contents, its own five counters at zero and the four arrays it reads
    at contents `fh0`, …, `fh3`, reaches its end with the output block at `Launched.out fh0 fh1 fh2 fh3`, the scratch at
    some contents, the counters at zero and the arrays as they were. -/
theorem kernelRun0_A (c : Dev nD) (arg4 : Memref sig .tc .vmem S64x256 .f32) (harg4 : arg4.IsWhole) (arg5 : Memref sig .tc .vmem S768x1024 .fp8e4m3) (harg5 : arg5.IsWhole) (arg6 : Memref sig .tc .vmem S1024x768 .f32) (harg6 : arg6.IsWhole) (arg7 : Memref sig .tc .vmem S1x1024 .f32) (harg7 : arg7.IsWhole) (arg8 : Memref sig .tc .vmem S1024x256 .bf16) (harg8 : arg8.IsWhole) (arg9 : Memref sig .tc .vmem S2x4x256x768 .f32) (harg9 : arg9.IsWhole) (arg10 : Memref sig .tc .vmem S64x1024 .f32) (harg10 : arg10.IsWhole)
     (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop((∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg4 fullShare (Launched.out fh0 fh1 fh2 fh3) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0__body (Memref.whole main_arg0) (Memref.isWhole_whole _) (Memref.whole main_v1) (Memref.isWhole_whole _) (Memref.whole main_v3) (Memref.isWhole_whole _) (Memref.whole main_v8) (Memref.isWhole_whole _) arg4 harg4 arg5 harg5 arg6 harg6 arg7 harg7 arg8 harg8 arg9 harg9 arg10 harg10 cc0_scratch6) K := by
    intro W K
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
    unfold owns
    iintro ⟨⟨%d0, %f0, -, H0⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hh0, Hh1, Hh2, Hh3, HW, Hk⟩
    sl_exec
    sl_step
    iapply Hk
    isplitl [H0]
    · iexists _; isplitr; swap; · iexact H0
      ipureintro
      have e3 : kernelRun0_A.sl.v532 c arg8 fh3 = fh3 := by
        unfold kernelRun0_A.sl.v532
        exact View.readCov_full (off' := fun _ => 0) _ _ _ _ _
      have e2 : kernelRun0_A.sl.v524 c arg7 fh2 = fh2 := by
        unfold kernelRun0_A.sl.v524
        exact View.readCov_full (off' := fun _ => 0) _ _ _ _ _
      have e1 : kernelRun0_A.sl.v53 c arg5 arg6 fh1 = k0_pay2 fh1 := by
        unfold kernelRun0_A.sl.v53 kernelRun0_A.sl.HS0_1 kernelRun0_A.sl.v13
        refine (View.readCov_full _ _ _ _ _).trans (congrArg k0_pay2 ?_)
        exact View.readCov_full (off' := fun _ => 0) _ _ _ _ _
      have b0 : kernelRun0_A.sl.v39 c arg9 fh0 fs4 = Slots.held (Slots.images fh0 0) := by
        unfold kernelRun0_A.sl.v39
        refine (Slots.load_other arg9 _ _ _ _ (Slots.slot_ne (by decide) _ _) _ _).trans ((Slots.load_filled arg9 _ _ _ _ _).trans ?_)
        exact congrArg Slots.held (Slots.read_images (Memref.whole main_arg0) fh0 0 _ _)
      have b1 : kernelRun0_A.sl.v70 c arg9 fh0 fs4 = Slots.held (Slots.images fh0 1) := by
        unfold kernelRun0_A.sl.v70
        refine (Slots.load_other arg9 _ _ _ _ (Slots.slot_ne (by decide) _ _) _ _).trans ((Slots.load_filled arg9 _ _ _ _ _).trans ?_)
        exact congrArg Slots.held (Slots.read_images (Memref.whole main_arg0) fh0 1 _ _)
      have b2 : kernelRun0_A.sl.v101 c arg9 fh0 fs4 = Slots.held (Slots.images fh0 2) := by
        unfold kernelRun0_A.sl.v101
        refine (Slots.load_other arg9 _ _ _ _ (Slots.slot_ne (by decide) _ _) _ _).trans ((Slots.load_filled arg9 _ _ _ _ _).trans ?_)
        exact congrArg Slots.held (Slots.read_images (Memref.whole main_arg0) fh0 2 _ _)
      have b3 : kernelRun0_A.sl.v132 c arg9 fh0 fs4 = Slots.held (Slots.images fh0 3) := by
        unfold kernelRun0_A.sl.v132
        refine (Slots.load_other arg9 _ _ _ _ (Slots.slot_ne (by decide) _ _) _ _).trans ((Slots.load_filled arg9 _ _ _ _ _).trans ?_)
        exact congrArg Slots.held (Slots.read_images (Memref.whole main_arg0) fh0 3 _ _)
      have b4 : kernelRun0_A.sl.v163 c arg9 fh0 fs4 = Slots.held (Slots.images fh0 4) := by
        unfold kernelRun0_A.sl.v163
        refine (Slots.load_other arg9 _ _ _ _ (Slots.slot_ne (by decide) _ _) _ _).trans ((Slots.load_filled arg9 _ _ _ _ _).trans ?_)
        exact congrArg Slots.held (Slots.read_images (Memref.whole main_arg0) fh0 4 _ _)
      have b5 : kernelRun0_A.sl.v194 c arg9 fh0 fs4 = Slots.held (Slots.images fh0 5) := by
        unfold kernelRun0_A.sl.v194
        refine (Slots.load_other arg9 _ _ _ _ (Slots.slot_ne (by decide) _ _) _ _).trans ((Slots.load_filled arg9 _ _ _ _ _).trans ?_)
        exact congrArg Slots.held (Slots.read_images (Memref.whole main_arg0) fh0 5 _ _)
      have b6 : kernelRun0_A.sl.v225 c arg9 fh0 fs4 = Slots.held (Slots.images fh0 6) := by
        unfold kernelRun0_A.sl.v225
        refine (Slots.load_other arg9 _ _ _ _ (Slots.slot_ne (by decide) _ _) _ _).trans ((Slots.load_filled arg9 _ _ _ _ _).trans ?_)
        exact congrArg Slots.held (Slots.read_images (Memref.whole main_arg0) fh0 6 _ _)
      have b7 : kernelRun0_A.sl.v256 c arg9 fh0 fs4 = Slots.held (Slots.images fh0 7) := by
        unfold kernelRun0_A.sl.v256
        refine (Slots.load_other arg9 _ _ _ _ (Slots.slot_ne (by decide) _ _) _ _).trans ((Slots.load_filled arg9 _ _ _ _ _).trans ?_)
        exact congrArg Slots.held (Slots.read_images (Memref.whole main_arg0) fh0 7 _ _)
      have b8 : kernelRun0_A.sl.v287 c arg9 fh0 fs4 = Slots.held (Slots.images fh0 8) := by
        unfold kernelRun0_A.sl.v287
        refine (Slots.load_other arg9 _ _ _ _ (Slots.slot_ne (by decide) _ _) _ _).trans ((Slots.load_filled arg9 _ _ _ _ _).trans ?_)
        exact congrArg Slots.held (Slots.read_images (Memref.whole main_arg0) fh0 8 _ _)
      have b9 : kernelRun0_A.sl.v318 c arg9 fh0 fs4 = Slots.held (Slots.images fh0 9) := by
        unfold kernelRun0_A.sl.v318
        refine (Slots.load_other arg9 _ _ _ _ (Slots.slot_ne (by decide) _ _) _ _).trans ((Slots.load_filled arg9 _ _ _ _ _).trans ?_)
        exact congrArg Slots.held (Slots.read_images (Memref.whole main_arg0) fh0 9 _ _)
      have b10 : kernelRun0_A.sl.v349 c arg9 fh0 fs4 = Slots.held (Slots.images fh0 10) := by
        unfold kernelRun0_A.sl.v349
        refine (Slots.load_other arg9 _ _ _ _ (Slots.slot_ne (by decide) _ _) _ _).trans ((Slots.load_filled arg9 _ _ _ _ _).trans ?_)
        exact congrArg Slots.held (Slots.read_images (Memref.whole main_arg0) fh0 10 _ _)
      have b11 : kernelRun0_A.sl.v c arg9 fh0 fs4 = Slots.held (Slots.images fh0 11) := by
        unfold kernelRun0_A.sl.v
        refine (Slots.load_other arg9 _ _ _ _ (Slots.slot_ne (by decide) _ _) _ _).trans ((Slots.load_filled arg9 _ _ _ _ _).trans ?_)
        exact congrArg Slots.held (Slots.read_images (Memref.whole main_arg0) fh0 11 _ _)
      have b12 : kernelRun0_A.sl.v411 c arg9 fh0 fs4 = Slots.held (Slots.images fh0 12) := by
        unfold kernelRun0_A.sl.v411
        refine (Slots.load_other arg9 _ _ _ _ (Slots.slot_ne (by decide) _ _) _ _).trans ((Slots.load_filled arg9 _ _ _ _ _).trans ?_)
        exact congrArg Slots.held (Slots.read_images (Memref.whole main_arg0) fh0 12 _ _)
      have b13 : kernelRun0_A.sl.v442 c arg9 fh0 fs4 = Slots.held (Slots.images fh0 13) := by
        unfold kernelRun0_A.sl.v442
        refine (Slots.load_other arg9 _ _ _ _ (Slots.slot_ne (by decide) _ _) _ _).trans ((Slots.load_filled arg9 _ _ _ _ _).trans ?_)
        exact congrArg Slots.held (Slots.read_images (Memref.whole main_arg0) fh0 13 _ _)
      have b14 : kernelRun0_A.sl.v473 c arg9 fh0 fs4 = Slots.held (Slots.images fh0 14) := by
        unfold kernelRun0_A.sl.v473
        refine (Slots.load_other arg9 _ _ _ _ (Slots.slot_ne (by decide) _ _) _ _).trans ((Slots.load_filled arg9 _ _ _ _ _).trans ?_)
        exact congrArg Slots.held (Slots.read_images (Memref.whole main_arg0) fh0 14 _ _)
      have b15 : kernelRun0_A.sl.v499 c arg9 fh0 fs4 = Slots.held (Slots.images fh0 15) := by
        unfold kernelRun0_A.sl.v499
        refine ((Slots.load_filled arg9 _ _ _ _ _).trans ?_)
        exact congrArg Slots.held (Slots.read_images (Memref.whole main_arg0) fh0 15 _ _)
      have e5 : kernelRun0_A.sl.v533 c arg5 arg6 arg9 arg10 fh0 fh1 fs4 = Slots.stack (Launched.block fh0 fh1) := by
        unfold kernelRun0_A.sl.v533 kernelRun0_A.sl.HS5_16
        unfold kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r
        rw [e1, b0, b1, b2, b3, b4, b5, b6, b7, b8, b9, b10, b11, b12, b13, b14, b15, Launched.pay4_eq, Launched.pay6_eq, Launched.pay8_eq, Launched.pay10_eq, Launched.pay12_eq, Launched.pay14_eq, Launched.pay18_eq, Launched.pay22_eq, Launched.pay25_eq, Launched.pay28_eq, Launched.pay29_eq, Launched.pay30_eq, Launched.pay31_eq, Launched.pay32_eq, Launched.pay34_eq]
        exact Launched.read_blocks arg10.view fh0 fh1 _ _ _ _ _ _ _ _ _ _ _ _ _ _ _ _ _
      unfold kernelRun0_A.sl.r_14 kernelRun0_A.sl.r_15 kernelRun0_A.sl.cst_448
      rw [e3, e2, e5]
      refine (View.read_writes_full _ _ _ _ _).trans ?_
      rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hh0]; · iexact Hh0
    isplitl [Hh1]; · iexact Hh1
    isplitl [Hh2]; · iexact Hh2
    isplitl [Hh3]; · iexact Hh3
    iexists _; iexact HW

end Cert.KernelIdeal.Run

end
-- ==== Proof.IdealFrame.lean ====
/- The launched program on ideal numbers, run whole: it ends with its arguments unchanged, its counters at zero, and its
   result the first two hundred columns of the output block. -/
module

public import proofs.«01_k».proof.Proof.IdealRun
public import Idealize.ShloMosaic.Lib.Claim

@[expose] public section

-- membership in a rectangle of long axes recurses once per coordinate
set_option maxRecDepth 16384

noncomputable section

namespace Cert.KernelIdeal.Run

open Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The data of the launch: the output block ends at `Launched.out` of the arrays
    the body copies from; the body keeps its scratch, its counters at zero and those arrays. -/
def dats (_ : Fin 1) (c : Dev nD) : Dat τ (Elt F) Unit ℕ (Pipeline.UD sig nD τ) ℕ cfg0 c where
  A w := V m c (Pipeline.arrRef spec0 w)
  after w t := match w with
    | ⟨0, _⟩ => Launched.out (V m c main_arg0) (V m c main_v1) (V m c main_v3) (V m c main_v8)
  Φ _ := Pipeline.ΦD osem0 spec0 H0 (V m) c
  q _ := fullShare
  owed _ := 0

/-- The arrays of the launch are the contents the region finds. -/
theorem A_eq (c : Dev nD) (w : Fin cfg0.W) : (dats m 0 c).A w = V m c (Pipeline.arrRef spec0 w) := by
  dsimp only [dats]

/-! ## The body obligation, at a generic point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

/-- The body takes the first to the second, at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4, HS5⟩, Hg, ⟨Hq0, Hq1, Hq2, Hq3, Hq4⟩, ⟨Hh0, Hh1, Hh2, Hh3⟩⟩, ⟨%W, -, HW⟩, ⟨%d0, H0⟩⟩
  iapply ((kernelRun0_A c _ _ _ _ _ _ _ _ _ _ _ _ _ _  (V m c main_arg0) (V m c main_v1) (V m c main_v3) (V m c main_v8)) W _)
  isplitl [H0]; · iexists _; iexact H0
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [HW]; · iexact HW
  iintro ⟨H0, HS0, HS1, HS2, HS3, HS4, HS5, Hq0, Hq1, Hq2, Hq3, Hq4, Hh0, Hh1, Hh2, Hh3, ⟨%W', HW'⟩⟩
  isplitl [HS0 HS1 HS2 HS3 HS4 HS5 Hg Hq0 Hq1 Hq2 Hq3 Hq4 Hh0 Hh1 Hh2 Hh3]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]
    · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  iexact H0

/-- The body the launch calls is the kernel's body. -/
theorem defs₀_row (t : Fin cfg0.N) :
    defs₀ (F := F) .tc cfg0.body (cfg0.bodyArgs t (cfg0.slots t)) = bodyAt0 t := by
  unfold defs₀; rw [Defs.onTc_tc]

/-- So the body does what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unfolding plain definitions in a metavariable's type
set_option backward.isDefEq.respectTransparency.types false in
set_option maxHeartbeats 800000 in
/-- The whole program ends with the output block as stated, every other buffer at what the host lines leave in it, and
    every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- The arguments end unchanged, the result at what the host lines after the region leave in it, and every counter at
    zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v10) = Pipeline.afterTail₀ cfgs (dats m) 0 (V0 m) [hostOps1] c main_v10)
      ∧ r.2.sem = fun _ => 0) :=
  (θ_run defs _ _).mono (fun _ h => ⟨fun c => ⟨
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      (h.1 c).2 main_v10 (Pipeline.mem_restRefs_of main_v10 (by decide) (by decide))⟩, h.2⟩)
    (run_main_quiescent m ρ)

end Cert.KernelIdeal.Run

end
-- ==== Proof.Frames.lean ====
/- Each of the three programs, run from any memory with its counters at zero, ends with its arguments unchanged and its
   counters at zero; and the one constant that has a name in the ideal program has the value the name stands for. -/
module

public import proofs.«01_k».proof.Defs
public import proofs.«01_k».proof.Proof.KernelFrame
public import proofs.«01_k».proof.Proof.IdealFrame
public import proofs.«01_k».proof.Proof.Gen.ReferenceIdeal.Run

@[expose] public section

noncomputable section

namespace Cert.Frames

open Idealize.ShloMosaic Idealize.SL.Sem

/-- The launched program on machine words ends with its arguments unchanged and its counters at zero. -/
theorem kernel : Cert.quiescent_Kernel (hKernel := Cert.Kernel.Gen.facts) := fun m ρ _ => Cert.Kernel.Run.frame m ρ

/-- The launched program on ideal numbers ends with its arguments unchanged and its counters at zero. -/
theorem ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩)
    (Cert.KernelIdeal.Run.run m ρ)

/-- The plain formula on ideal numbers ends with its arguments unchanged; it has no counters. -/
theorem reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named constant stands for five over the 32-bit number nearest one fifth, and rounds to twenty-five. -/
theorem preserves : Cert.preserves_Kernel_KernelIdeal :=
  IdealRules.named_const.statement Cert.KernelIdeal.κ "count_over_temp" .f32 0x41C80000#32 _ rfl

end Cert.Frames

end
-- ==== Proof.Entry.lean ====
/- What the launch finds in its operand arrays, and what it leaves in the result: the prototypes as rows under a border of
   zeros, the weights as one row before a border of a very low number, the table of classes, and the result's columns. -/
module

public import proofs.«01_k».proof.Proof.IdealFrame
public import Idealize.ShloMosaic.Lib.Pointwise
public import Idealize.ShloMosaic.Lib.Pipeline.ValueKit

@[expose] public section

set_option maxRecDepth 16384

noncomputable section

namespace Cert.KernelIdeal.Run

open Cert.KernelIdeal.Gen Idealize.ShloMosaic Idealize.ShloMosaic.TcCoe Idealize.ShloMosaic.Tactic

variable (m : (ℓ : Loc nD τ sig) → Buf (Elt Ideal) ℓ)

/-- The quotient by five of a row number, as the host computes it from truncated division. -/
theorem quotient_word : ∀ r : Fin 1024,
    Scalar.select
      (IntOp.andi
        (IntOp.cmpi CmpIPredicate.ne
          (if BitVec.ofNat 32 r.val = 0 then 0 else if (BitVec.ofNat 32 r.val).msb = true then -1 else 1 : BitVec 32)
          (if 5#32 = 0 then 0 else if (5#32).msb = true then -1 else 1 : BitVec 32))
        (IntOp.cmpi CmpIPredicate.ne (IntOp.remsi ArithUnit.host (BitVec.ofNat 32 r.val) 5#32) 0#32))
      (IntOp.subi (IntOp.divsi ArithUnit.host (BitVec.ofNat 32 r.val) 5#32) 1#32)
      (IntOp.divsi ArithUnit.host (BitVec.ofNat 32 r.val) 5#32) = BitVec.ofNat 32 (r.val / 5) := by
  decide +kernel

/-- The table of classes: row `r` has its one in column `r / 5`. -/
theorem classes_apply (c : Dev nD) (r : Fin 1024) (d : Fin 256) :
    V m c main_v8 (ix2 r d) = if r.val / 5 = d.val then (1 : EReal) else 0 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  simp only [StableHlo.TRef.ofBuf_toBuf, StableHlo.TRef.ofBuf, StableHlo.TRef.toBuf, StableHlo.TRef.of, cast_eq, id]
  pointwise
  refine (congrArg (fun w => (FloatOps.uitofp .bf16 (IntOp.cmpi .eq w (BitVec.ofNat 32 d.val)) : Ideal .bf16)) (quotient_word r)).trans ?_
  have hr := r.isLt
  have hd := d.isLt
  by_cases h : r.val / 5 = d.val
  · rw [if_pos h, h]
    show ((((IntOp.cmpi .eq (BitVec.ofNat 32 d.val) (BitVec.ofNat 32 d.val)).toNat : ℕ) : ℝ) : EReal) = 1
    simp [IntOp.cmpi]
  · rw [if_neg h]
    have hne : BitVec.ofNat 32 (r.val / 5) ≠ BitVec.ofNat 32 d.val := fun e => h (by
      have := congrArg BitVec.toNat e
      simp only [BitVec.toNat_ofNat] at this
      omega)
    show ((((IntOp.cmpi .eq (BitVec.ofNat 32 (r.val / 5)) (BitVec.ofNat 32 d.val)).toNat : ℕ) : ℝ) : EReal) = 0
    simp [IntOp.cmpi, hne]

/-- The rows of prototypes: row `r` is prototype `r % 5` of class `r / 5`, and zero below the last. -/
theorem rows_apply (c : Dev nD) (r : Fin 1024) (d : Fin 768) :
    V m c main_v1 (ix2 r d) = (if h : r.val < 1005 then
        (m ((c.tc : Thread nD τ).loc main_arg1) (ix3 (⟨r.val / 5, by omega⟩ : Fin 201) (⟨r.val % 5, by omega⟩ : Fin 5) d) : EReal)
      else 0 : EReal) := by
  dsimp only [V, V0]
  simp only [hostOps0, hostOps0_1, hostOps0_2, hostOps0_3, hostOps0_4, hostOps0_5, hostOps0_6, List.flatten_cons, List.flatten_nil, List.append_nil, List.cons_append, List.nil_append]
  after_results_simp
  simp only [StableHlo.TRef.ofBuf_toBuf, StableHlo.TRef.ofBuf, StableHlo.TRef.toBuf, StableHlo.TRef.of, cast_eq, id]
  pointwise
  congr 1
  funext _
  show (((((0#32 : BitVec 32).toInt : ℤ)) : ℝ) : EReal) = 0
  simp

/-- The row of weights: entry `r` is the weight of prototype `r % 5` of class `r / 5`, and the very low number behind the last. -/
theorem weights_apply (c : Dev nD) (r : Fin 1024) :
    V m c main_v3 (ix2 0 r) = if h : r.val < 1000 then
        (m ((c.tc : Thread nD τ).loc main_arg2) (ix2 (⟨r.val / 5, by omega⟩ : Fin 200) (⟨r.val % 5, by omega⟩ : Fin 5)) : EReal)
      else Ideal.ofBits .f32 0xF149F2CA#32 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  simp only [StableHlo.TRef.ofBuf_toBuf, StableHlo.TRef.ofBuf, StableHlo.TRef.toBuf, StableHlo.TRef.of, cast_eq, id]
  pointwise

end Cert.KernelIdeal.Run

end
-- ==== Proof.Result.lean ====
/- The launch's result array: the whole output block, cut to its first two hundred columns. -/
module

public import proofs.«01_k».proof.Proof.IdealFrame
public import Idealize.ShloMosaic.Lib.Pipeline.ValueKit

@[expose] public section

set_option maxRecDepth 16384

noncomputable section

namespace Cert.KernelIdeal.Run

open Cert.KernelIdeal.Gen Idealize.ShloMosaic Idealize.ShloMosaic.TcCoe Idealize.ShloMosaic.Tactic

variable (m : (ℓ : Loc nD τ sig) → Buf (Elt Ideal) ℓ)

/-- The launch's output block is the whole of its array. -/
theorem out_array (c : Dev nD) : (dats m 0 c).arrAt 0 (cfgs 0).N
    = Launched.out (V m c main_arg0) (V m c main_v1) (V m c main_v3) (V m c main_v8) := by
  refine (dats m 0 c).arrAt_eq_of_after_last 0 t0_0 (by decide +kernel) _ fun j => ?_
  dsimp only [dats]
  rfl

/-- The result is the first two hundred columns of the output block. -/
theorem result (c : Dev nD) : Pipeline.afterTail₀ cfgs (dats m) 0 (V0 m) [hostOps1] c main_v10
    = extractStridedSlice S64x200 ![0, 0] (Launched.out (V m c main_arg0) (V m c main_v1) (V m c main_v3) (V m c main_v8)) slices_S64x256_S64x200_0_0 := by
  unfold Pipeline.afterTail₀
  simp only [hostOps1, List.flatten_cons, List.flatten_nil, List.append_nil, List.cons_append, List.nil_append]
  after_results_simp
  rw [← out_array]
  congr 1
  exact Pipeline.withArrays_arr spec0 (by decide) c (V0 m c) _ 0

end Cert.KernelIdeal.Run

end
-- ==== Proof.Algebra.lean ====
/- The mathematics that joins the kernel and the reference, over the extended reals: the printed constants, the largest
   weight, a class's five rows in a sum over all rows, and the score's two forms. -/
module

public import Idealize.ShloMosaic.Lib.IdealHost

@[expose] public section

noncomputable section

namespace Cert.Algebra

open Idealize.ShloMosaic

/-! ## The printed constants -/

/-- The word of minus infinity. -/
theorem word_bot : Ideal.ofBits .f32 0xFF800000#32 = (⊥ : EReal) := by
  simp [Ideal.ofBits, Ideal.ieee]

/-- The word of the least length is a positive number. -/
theorem word_length_pos : (0 : EReal) < Ideal.ofBits .f32 0x2B8CBCCC#32 := by
  have h : Ideal.ofBits .f32 0x2B8CBCCC#32 = (((2 ^ 23 + 834764 : ℝ) * (2 : ℝ) ^ (-63 : ℤ) : ℝ) : EReal) := by
    simp [Ideal.ofBits, Ideal.ieee, -EReal.coe_mul, -EReal.coe_add]; norm_num
  rw [h, ← EReal.coe_zero, EReal.coe_lt_coe_iff]
  positivity

/-- The word below which the shares' sum does not fall. -/
theorem word_floor : ∃ v : ℝ, Ideal.ofBits .f32 0x0DA24260#32 = (v : EReal) ∧ v ≤ 1.001 / 10 ^ 30 := by
  refine ⟨(2 ^ 23 + 2245216 : ℝ) * (2 : ℝ) ^ (-123 : ℤ), ?_, ?_⟩
  · simp [Ideal.ofBits, Ideal.ieee, -EReal.coe_mul, -EReal.coe_add]; norm_num
  · norm_num

/-- The 32-bit number nearest 10 ^ 30. -/
def big : ℝ := (2 ^ 23 + 4846282 : ℝ) * (2 : ℝ) ^ (76 : ℤ)

/-- The word of the border behind the weights. -/
theorem word_border : Ideal.ofBits .f32 0xF149F2CA#32 = ((-big : ℝ) : EReal) := by
  unfold big
  simp [Ideal.ofBits, Ideal.ieee, -EReal.coe_mul, -EReal.coe_add, -EReal.coe_neg]; norm_num

/-- The word of the bound on the weights. -/
theorem word_big : Ideal.ofBits .f32 0x7149F2CA#32 = ((big : ℝ) : EReal) := by
  unfold big
  simp [Ideal.ofBits, Ideal.ieee, -EReal.coe_mul, -EReal.coe_add]; norm_num

/-- The word of five. -/
theorem word_five : Ideal.ofBits .f32 0x40A00000#32 = ((5 : ℝ) : EReal) := by
  simp [Ideal.ofBits, Ideal.ieee, -EReal.coe_mul, -EReal.coe_add]; norm_num

/-- The word of the temperature. -/
theorem word_temp : Ideal.ofBits .f32 0x3E4CCCCD#32 = ((13421773 / 2 ^ 26 : ℝ) : EReal) := by
  simp [Ideal.ofBits, Ideal.ieee, -EReal.coe_mul, -EReal.coe_add]; norm_num

/-- The word of the distance between the largest weights. -/
theorem word_spread : Ideal.ofBits .f32 0x428A0000#32 = ((69 : ℝ) : EReal) := by
  simp [Ideal.ofBits, Ideal.ieee, -EReal.coe_mul, -EReal.coe_add]; norm_num

/-! ## Bounds -/

/-- A number whose distance from zero is at most a real one is a real number between the bounds. -/
theorem real_of_abs_le {x : EReal} {b : ℝ} (h : max x (-x) ≤ (b : EReal)) : ∃ v : ℝ, x = (v : EReal) ∧ -b ≤ v ∧ v ≤ b := by
  induction x with
  | bot => simp at h
  | top => simp at h
  | coe v =>
    obtain ⟨h1, h2⟩ := max_le_iff.mp h
    rw [← EReal.coe_neg, EReal.coe_le_coe_iff] at h2
    rw [EReal.coe_le_coe_iff] at h1
    exact ⟨v, rfl, by linarith, h1⟩

/-- The largest of numbers none above a real bound, one of them real, is real and not above the bound. -/
theorem fold_max_real {ι : Type} (s : Finset ι) (f : ι → EReal) (b : ℝ) (hb : ∀ i ∈ s, f i ≤ (b : EReal)) (i₀ : ι) (h₀ : i₀ ∈ s)
    (v : ℝ) (hv : f i₀ = (v : EReal)) : ∃ M : ℝ, s.fold max ⊥ f = (M : EReal) ∧ M ≤ b := by
  have hle : s.fold max ⊥ f ≤ (b : EReal) := Finset.fold_max_le _ |>.mpr ⟨bot_le, hb⟩
  have hge : (v : EReal) ≤ s.fold max ⊥ f := Finset.le_fold_max _ |>.mpr (Or.inr ⟨i₀, h₀, hv.ge⟩)
  generalize s.fold max ⊥ f = x at hle hge
  induction x with
  | bot => simp at hge
  | top => simp at hle
  | coe M => exact ⟨M, rfl, EReal.coe_le_coe_iff.mp hle⟩

/-- Euler's number is below 2.7195. -/
theorem exp_one_le : Real.exp 1 ≤ 2.7195 := by
  have h := (abs_le.mp (Real.exp_bound (x := 1) (by simp) (n := 8) (by norm_num))).2
  simp only [Finset.sum_range_succ, Finset.sum_range_zero, Nat.factorial] at h
  norm_num at h
  linarith

/-- The exponential of minus sixty-nine is above the floor of the shares' sum. -/
theorem floor_le_exp : (1.001 / 10 ^ 30 : ℝ) ≤ Real.exp (-69) := by
  have h : Real.exp 69 ≤ 10 ^ 30 / 1.001 := by
    have e : Real.exp 69 = Real.exp 1 ^ 69 := by rw [← Real.exp_nat_mul]; norm_num
    rw [e]
    exact (pow_le_pow_left₀ (Real.exp_pos 1).le exp_one_le 69).trans (by norm_num)
  rw [Real.exp_neg, ← inv_div]
  exact inv_anti₀ (Real.exp_pos _) h

/-- The largest of finitely many real numbers is one of them. -/
theorem fold_max_attained (f : Fin 5 → EReal) (v : Fin 5 → ℝ) (hv : ∀ k, f k = (v k : EReal)) (m : ℝ)
    (hm : Finset.univ.fold max ⊥ f = (m : EReal)) : ∃ k, m ≤ v k := by
  by_contra h
  push Not at h
  have hlt : Finset.univ.fold max ⊥ f < (m : EReal) := (Finset.fold_max_lt _).mpr
    ⟨EReal.bot_lt_coe m, fun k _ => by rw [hv]; exact EReal.coe_lt_coe_iff.mpr (h k)⟩
  exact absurd hm hlt.ne

/-! ## Sums -/

/-- A real factor that is not negative goes into a sum, whatever the summands. -/
theorem sum_mul_real {ι : Type} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi,
      EReal.right_distrib_of_nonneg_of_ne_top (EReal.coe_nonneg.mpr ha) (EReal.coe_ne_top a), ih]

/-- A sum of real numbers, taken among the extended reals. -/
theorem sum_real {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- Row `k` of class `c`. -/
def row (c : Fin 200) (k : Fin 5) : Fin 1024 := ⟨5 * c.val + k.val, by omega⟩

/-- Under a column of the table of classes a sum over all rows is the sum over the class's five. -/
theorem sum_class (f : Fin 1024 → EReal) (c : Fin 200) (t : Fin 1024 → EReal) (ht : ∀ r, t r = if r.val / 5 = c.val then 1 else 0) :
    ∑ r, f r * t r = ∑ k, f (row c k) := by
  simp only [ht, mul_ite, mul_one, mul_zero]
  rw [← Finset.sum_filter]
  refine (Finset.sum_bij' (fun k _ => row c k) (fun r _ => (⟨r.val % 5, by omega⟩ : Fin 5)) ?_ ?_ ?_ ?_ ?_).symm
  · intro k _
    simp only [row, Finset.mem_filter, Finset.mem_univ, true_and]
    omega
  · intro r _
    exact Finset.mem_univ _
  · intro k _
    refine Fin.ext ?_
    simp only [row]
    omega
  · intro r hr
    have := (Finset.mem_filter.mp hr).2
    refine Fin.ext ?_
    simp only [row]
    omega
  · intro k _
    rfl

/-! ## The score -/

/-- The score by one division of two sums under the largest weight of all, and by a class's shares under the class's own
    largest weight, are one number; of the matches nothing is asked. -/
theorem score_eq (B : Fin 5 → EReal) (u : Fin 5 → ℝ) (M m floor temp : ℝ) (k₀ : Fin 5) (hk : M - u k₀ ≤ 69)
    (hfloor : floor ≤ 1.001 / 10 ^ 30) (htemp : 0 < temp) :
    (∑ k, B k * Ideal.exp ((u k : EReal) - (M : EReal)))
        * Ideal.div ((5 / temp : ℝ) : EReal) (max (∑ k, Ideal.exp ((u k : EReal) - (M : EReal))) (floor : EReal))
      = Ideal.div (∑ k, B k * (Ideal.div (Ideal.exp ((u k : EReal) - (m : EReal))) (∑ l, Ideal.exp ((u l : EReal) - (m : EReal))) * ((5 : ℝ) : EReal)))
          (temp : EReal) := by
  simp only [← EReal.coe_sub, Ideal.exp_coe, sum_real]
  have hf : 0 < ∑ l, Real.exp (u l - m) := Finset.sum_pos (fun l _ => Real.exp_pos _) ⟨0, Finset.mem_univ _⟩
  have he : 0 < ∑ l, Real.exp (u l - M) := Finset.sum_pos (fun l _ => Real.exp_pos _) ⟨0, Finset.mem_univ _⟩
  have hge : floor ≤ ∑ l, Real.exp (u l - M) := by
    have h0 : Real.exp (u k₀ - M) ≤ ∑ l, Real.exp (u l - M) :=
      Finset.single_le_sum (f := fun l => Real.exp (u l - M)) (fun l _ => (Real.exp_pos _).le) (Finset.mem_univ k₀)
    have h1 : Real.exp (-69) ≤ Real.exp (u k₀ - M) := Real.exp_le_exp.mpr (by linarith)
    linarith [floor_le_exp]
  rw [max_eq_left (EReal.coe_le_coe_iff.mpr hge), Ideal.div_coe he.ne', Ideal.div_coe htemp.ne', ← EReal.coe_mul,
    sum_mul_real _ _ (by positivity), sum_mul_real _ _ (by positivity)]
  refine Finset.sum_congr rfl fun k _ => ?_
  rw [Ideal.div_coe hf.ne', mul_assoc, mul_assoc, ← EReal.coe_mul, ← EReal.coe_mul, ← EReal.coe_mul, ← EReal.coe_mul]
  congr 2
  have hs : ∀ l, Real.exp (u l - M) = Real.exp (u l - m) * Real.exp (m - M) := fun l => by rw [← Real.exp_add]; congr 1; ring
  have hS : ∑ l, Real.exp (u l - M) = (∑ l, Real.exp (u l - m)) * Real.exp (m - M) := by
    rw [Finset.sum_mul]; exact Finset.sum_congr rfl fun l _ => hs l
  have hx := (Real.exp_pos (m - M)).ne'
  rw [hS, hs k]
  field_simp

end Cert.Algebra

end
-- ==== Proof.KernelValue.lean ====
/- What the launched body computes, read at an index: rows of unit length, the best match of every prototype row in every
   image, the exponentials of the weights, and the score of every image under every column of the table of classes. -/
module

public import proofs.«01_k».proof.Proof.Launched
public import Idealize.ShloMosaic.Lib.Pointwise

@[expose] public section

set_option maxRecDepth 16384

noncomputable section

namespace Cert.Launched

open Cert.KernelIdeal Cert.KernelIdeal.Gen Idealize.ShloMosaic

/-- The prototype rows, scaled by the reciprocals of their lengths and turned. -/
theorem rows_unit (p : Vec Ideal S1024x768 .f32) (d : Fin 768) (r : Fin 1024) :
    k0_pay2 p (ix2 d r) = (p (ix2 r d) * Ideal.div 1 (max (Ideal.sqrt (∑ e, p (ix2 r e) * p (ix2 r e))) (Ideal.ofBits .f32 0x2B8CBCCC#32)) : EReal) := by
  pointwise [k0_pay2]

/-- One block: the largest product over the patches of an image, for every prototype row. -/
theorem block_best (x : Vec Ideal S1x4x256x768 .f32) (q : Vec Ideal S768x1024 .fp8e4m3) (a : Fin 4) (r : Fin 1024)
    (y : Fin 256 → Fin 768 → EReal) (hy : ∀ n d, x (ix4 0 a n d) = y n d) (z : Fin 768 → EReal) (hz : ∀ d, q (ix2 d r) = z d) :
    k0_pay3 x q (ix2 a r) = (Finset.univ.fold max (Ideal.ofBits .f32 0xFF800000#32) fun n : Fin 256 =>
      ∑ d : Fin 768, y n d * Ideal.div 1 (max (Ideal.sqrt (∑ e, y n e * y n e)) (Ideal.ofBits .f32 0x2B8CBCCC#32)) * z d : EReal) := by
  pointwise [k0_pay3]
  simp only [hy, hz]

/-- A block's patch is the image's patch. -/
theorem held_images (x : Vec Ideal S64x256x768 .f32) (i : Fin 16) (a : Fin 4) (n : Fin 256) (d : Fin 768) :
    Slots.held (Slots.images x i) (ix4 0 a n d) = x (ix3 (⟨4 * i.val + a.val, by omega⟩ : Fin 64) n d) := by
  unfold Slots.held
  rw [Shape.reshapeEquiv_symm]
  pointwise
  unfold Slots.images
  congr 1
  funext k
  fin_cases k <;> rfl

/-- The exponentials of the weights, the largest of all weights subtracted. -/
theorem exps_apply (w : Vec Ideal S1x1024 .f32) (r : Fin 1024) :
    k0_pay35 w (ix2 0 r) = Ideal.exp (w (ix2 0 r) - Finset.univ.fold max (Ideal.ofBits .f32 0xFF800000#32) fun l : Fin 1 × Fin 1024 => w (ix2 0 l.2)) := by
  pointwise [k0_pay35]

/-- The best match of prototype row `r` in image `b`. -/
def best (x : Vec Ideal S64x256x768 .f32) (p : Vec Ideal S1024x768 .f32) (b : Fin 64) (r : Fin 1024) : EReal :=
  Finset.univ.fold max (Ideal.ofBits .f32 0xFF800000#32) fun n : Fin 256 =>
      ∑ d : Fin 768, x (ix3 b n d) * Ideal.div 1 (max (Ideal.sqrt (∑ e, x (ix3 b n e) * x (ix3 b n e))) (Ideal.ofBits .f32 0x2B8CBCCC#32))
        * (p (ix2 r d) * Ideal.div 1 (max (Ideal.sqrt (∑ e, p (ix2 r e) * p (ix2 r e))) (Ideal.ofBits .f32 0x2B8CBCCC#32)))

/-- The scratch of best matches, at an index. -/
theorem stack_apply (x : Vec Ideal S64x256x768 .f32) (p : Vec Ideal S1024x768 .f32) (b : Fin 64) (r : Fin 1024) :
    Slots.stack (block x p) (ix2 b r) = best x p b r := by
  have h : Slots.stack (block x p) (ix2 b r) = block x p (⟨b.val / 4, by omega⟩ : Fin 16) (ix2 (⟨b.val % 4, by omega⟩ : Fin 4) r) := by
    unfold Slots.stack
    congr 1
    funext k
    fin_cases k <;> rfl
  rw [h]
  unfold block best
  have hb : (⟨4 * (b.val / 4) + b.val % 4, by omega⟩ : Fin 64) = b := Fin.ext (by show 4 * (b.val / 4) + b.val % 4 = b.val; omega)
  exact block_best _ _ _ r (fun n d => x (ix3 b n d)) (fun n d => (held_images x _ _ n d).trans (by rw [hb])) _ fun d => rows_unit p d r

/-- The score the body stores for image `b` under column `j`. -/
theorem out_apply (x : Vec Ideal S64x256x768 .f32) (p : Vec Ideal S1024x768 .f32) (w : Vec Ideal S1x1024 .f32) (t : Vec Ideal S1024x256 .bf16)
    (b : Fin 64) (j : Fin 256) :
    out x p w t (ix2 b j) = ((∑ r, best x p b r * k0_pay35 w (ix2 0 r) * t (ix2 r j))
      * Ideal.div (Named.named (F := Ideal) (φ := .f32) κ "count_over_temp" 0x41C80000#32) (max (∑ r, k0_pay35 w (ix2 0 r) * t (ix2 r j)) (Ideal.ofBits .f32 0x0DA24260#32)) : EReal) := by
  unfold out
  pointwise [k0_pay1, k0_pay36, k0_pay37]
  simp only [stack_apply]

end Cert.Launched

end
-- ==== Proof.RefValue.lean ====
/- What the reference computes, piece by piece: rows of unit length, the best match of a prototype in an image, a class's
   shares of its prototypes, and the score. Each piece is read at an index. -/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Cert.ReferenceIdeal.Facts Idealize.ShloMosaic

variable (x : FVec Ideal S64x256x768 .f32) (p : FVec Ideal S201x5x768 .f32) (s : FVec Ideal S200x5 .f32)

/-- Every patch divided by its length. -/
def unitX : FVec Ideal S64x256x768 .f32 :=
  Host.divf x (broadcastInDim S64x256x768 ![0, 1, 2] bcast_S64x256x1_S64x256x768_0_1_2 (maximumf (Host.sqrt (broadcastInDim S64x256x1 ![0, 1] bcast_S64x256_S64x256x1_0_1 (Host.reduceAdd (mulf x x) (constant S_ .f32 0x00000000#32) reducesTo_S64x256x768_S64x256_d2 h_S_))) (broadcastInDim S64x256x1 ![] bcast_S_S64x256x1 (constant S_ .f32 0x2B8CBCCC#32))))

/-- Every prototype divided by its length. -/
def unitP : FVec Ideal S201x5x768 .f32 :=
  Host.divf p (broadcastInDim S201x5x768 ![0, 1, 2] bcast_S201x5x1_S201x5x768_0_1_2 (maximumf (Host.sqrt (broadcastInDim S201x5x1 ![0, 1] bcast_S201x5_S201x5x1_0_1 (Host.reduceAdd (mulf p p) (constant S_ .f32 0x00000000#32) reducesTo_S201x5x768_S201x5_d2 h_S_))) (broadcastInDim S201x5x1 ![] bcast_S_S201x5x1 (constant S_ .f32 0x2B8CBCCC#32))))

/-- Every patch against every prototype. -/
def dots (x : FVec Ideal S64x256x768 .f32) (p : FVec Ideal S201x5x768 .f32) : FVec Ideal S64x256x201x5 .f32 :=
  Host.dotGeneral dot_S64x256x768_S201x5x768_S64x256x201x5_2_2_01_01_n_n none x p

/-- The largest product of an image's patches, for every prototype. -/
def largest (l : FVec Ideal S64x256x201x5 .f32) : FVec Ideal S64x201x5 .f32 :=
  Host.reduce FloatOps.maximumf l (constant S_ .f32 0xFF800000#32) reducesTo_S64x256x201x5_S64x201x5_d1 h_S_

/-- The exponentials of a class's weights, the class's largest weight subtracted. -/
def shifted : FVec Ideal S200x5 .f32 :=
  Host.exp (subf s (broadcastInDim S200x5 ![0, 1] bcast_S200x1_S200x5_0_1 (broadcastInDim S200x1 ![0] bcast_S200_S200x1_0 (maximumf (broadcastInDim S200 ![] bcast_S_S200 (constant S_ .f32 0xFF800000#32)) (Host.reduce FloatOps.maximumf s (constant S_ .f32 0xFF800000#32) reducesTo_S200x5_S200_d1 h_S_)))))

/-- Five times the shares of a class's prototypes. -/
def share : FVec Ideal S200x5 .f32 :=
  mulf (Host.divf (shifted s) (broadcastInDim S200x5 ![0, 1] bcast_S200x1_S200x5_0_1 (broadcastInDim S200x1 ![0] bcast_S200_S200x1_0 (Host.reduceAdd (shifted s) (constant S_ .f32 0x00000000#32) reducesTo_S200x5_S200_d1 h_S_)))) (broadcastInDim S200x5 ![] bcast_S_S200x5 (constant S_ .f32 0x40A00000#32))

/-- The score from the best matches and the shares. -/
def score (b : FVec Ideal S64x201x5 .f32) (w : FVec Ideal S200x5 .f32) : FVec Ideal S64x200 .f32 :=
  Host.divf (Host.reduceAdd (mulf (extractStridedSlice S64x200x5 ![0, 0, 0] b slices_S64x201x5_S64x200x5_0_0_0) (broadcastInDim S64x200x5 ![0, 1, 2] bcast_S1x200x5_S64x200x5_0_1_2 (broadcastInDim S1x200x5 ![1, 2] bcast_S200x5_S1x200x5_1_2 w))) (constant S_ .f32 0x00000000#32) reducesTo_S64x200x5_S64x200_d2 h_S_) (broadcastInDim S64x200 ![] bcast_S_S64x200 (constant S_ .f32 0x3E4CCCCD#32))

/-- A patch divided by its length, at an index. -/
theorem unitX_apply (b : Fin 64) (n : Fin 256) (d : Fin 768) :
    unitX x (ix3 b n d) = Ideal.div (x (ix3 b n d)) (max (Ideal.sqrt (∑ e, x (ix3 b n e) * x (ix3 b n e))) (Ideal.ofBits .f32 0x2B8CBCCC#32)) := by
  pointwise [unitX]

/-- A prototype divided by its length, at an index. -/
theorem unitP_apply (c : Fin 201) (k : Fin 5) (d : Fin 768) :
    unitP p (ix3 c k d) = Ideal.div (p (ix3 c k d)) (max (Ideal.sqrt (∑ e, p (ix3 c k e) * p (ix3 c k e))) (Ideal.ofBits .f32 0x2B8CBCCC#32)) := by
  pointwise [unitP]

/-- A patch against a prototype is their inner product. -/
theorem dots_apply (b : Fin 64) (n : Fin 256) (c : Fin 201) (k : Fin 5) :
    dots x p (ix4 b n c k) = ∑ d, x (ix3 b n d) * p (ix3 c k d) := by
  pointwise [dots]

/-- The largest product is a maximum over the image's patches. -/
theorem largest_apply (l : FVec Ideal S64x256x201x5 .f32) (b : Fin 64) (c : Fin 201) (k : Fin 5) :
    largest l (ix3 b c k) = Finset.univ.fold max (Ideal.ofBits .f32 0xFF800000#32) fun n => l (ix4 b n c k) := by
  pointwise [largest]

/-- A shifted exponential, at an index. -/
theorem shifted_apply (c : Fin 200) (k : Fin 5) :
    shifted s (ix2 c k) = Ideal.exp (s (ix2 c k) - max (Ideal.ofBits .f32 0xFF800000#32) (Finset.univ.fold max (Ideal.ofBits .f32 0xFF800000#32) fun l => s (ix2 c l))) := by
  pointwise [shifted]

/-- A share, at an index. -/
theorem share_apply (c : Fin 200) (k : Fin 5) :
    share s (ix2 c k) = Ideal.div (shifted s (ix2 c k)) (∑ l, shifted s (ix2 c l)) * Ideal.ofBits .f32 0x40A00000#32 := by
  pointwise [share]

/-- The score, at an index. -/
theorem score_apply (v : FVec Ideal S64x201x5 .f32) (w : FVec Ideal S200x5 .f32) (b : Fin 64) (c : Fin 200) :
    score v w (ix2 b c) = Ideal.div (∑ k, v (ix3 b (c.castLE (by decide)) k) * w (ix2 c k)) (Ideal.ofBits .f32 0x3E4CCCCD#32) := by
  pointwise [score]
  rfl

end Cert.ReferenceIdeal.Value

end
-- ==== Proof.Same.lean ====
/- The kernel's result and the reference's are one array, for weights of which every class has one within sixty-nine of the largest. -/
module

public import proofs.«01_k».proof.Proof.Algebra
public import proofs.«01_k».proof.Proof.KernelValue
public import proofs.«01_k».proof.Proof.RefValue
public import proofs.«01_k».proof.Pre_class_maxima_within_69
public import Idealize.ShloMosaic.Lib.ReduceAll

@[expose] public section

set_option maxRecDepth 16384

noncomputable section

namespace Cert.Same

open Cert.KernelIdeal Cert.KernelIdeal.Gen Cert.Algebra Cert.ReferenceIdeal.Value Idealize.ShloMosaic

/-- The predicate's side conditions. -/
instance facts : Cert.Pre_class_maxima_within_69.Facts := ⟨by decide, by decide, by decide, by decide, by decide, by decide⟩

/-- A comparison that came out one holds. -/
theorem le_of_cmp {x y : EReal} (h : BitVec.ofBool (decide (x ≤ y)) = 1#1) : x ≤ y := by
  by_contra hc
  rw [decide_eq_false hc] at h
  exact absurd h (by decide)

/-- Where the predicate holds, every weight is a real number between the bounds, and of the largest weight of all, less the
    largest of a class, at most sixty-nine remains. -/
theorem weights_real (x : FVec Ideal S64x256x768 .f32) (p : FVec Ideal S201x5x768 .f32) (s : FVec Ideal S200x5 .f32)
    (h : Cert.Pre_class_maxima_within_69.fn (F := Ideal) x p s = fun _ => 1#1) :
    (∀ (c : Fin 200) (k : Fin 5), ∃ v : ℝ, s (ix2 c k) = (v : EReal) ∧ -big ≤ v ∧ v ≤ big)
    ∧ ∀ c : Fin 200, (Finset.univ.fold max (⊥ : EReal) fun l : Fin 200 × Fin 5 => s (ix2 l.1 l.2))
        - (Finset.univ.fold max (⊥ : EReal) fun l : Fin 5 => s (ix2 c l)) ≤ ((69 : ℝ) : EReal) := by
  have h0 := congrFun h (fun a => a.elim0)
  dsimp only [Cert.Pre_class_maxima_within_69.fn] at h0
  obtain ⟨ha, hb⟩ := (by decide : ∀ a b : BitVec 1, a &&& b = 1#1 → a = 1#1 ∧ b = 1#1) _ _ h0
  refine ⟨fun c k => ?_, fun c => ?_⟩
  · have h1 := Host.reduce_andi_all _ _ _ _ _ ha (ix2 c k)
    have h2 : BitVec.ofBool (decide (max (s (ix2 c k) : EReal) (-(s (ix2 c k) : EReal)) ≤ Ideal.ofBits .f32 0x7149F2CA#32)) = 1#1 := h1
    rw [word_big] at h2
    exact real_of_abs_le (le_of_cmp h2)
  · have h1 := Host.reduce_andi_all _ _ _ _ _ hb (ix1 c)
    pointwise at h1
    have h2 := le_of_cmp h1
    simp only [word_bot, word_spread] at h2
    exact h2

/-- A row's best match in an image is the reference's largest product, whatever the numbers. -/
theorem best_eq (x : FVec Ideal S64x256x768 .f32) (p : FVec Ideal S201x5x768 .f32) (P : FVec Ideal S1024x768 .f32)
    (b : Fin 64) (c : Fin 200) (k : Fin 5) (hP : ∀ d, P (ix2 (row c k) d) = p (ix3 (c.castLE (by decide) : Fin 201) k d)) :
    Launched.best x P b (row c k) = largest (dots (unitX x) (unitP p)) (ix3 b (c.castLE (by decide) : Fin 201) k) := by
  rw [largest_apply]
  unfold Launched.best
  congr 1
  funext n
  rw [dots_apply]
  refine Finset.sum_congr rfl fun d _ => ?_
  have hl : ∀ y : EReal, max y (Ideal.ofBits .f32 0x2B8CBCCC#32) ≠ 0 := fun y => (lt_of_lt_of_le word_length_pos (le_max_right _ _)).ne'
  rw [unitX_apply, unitP_apply, Ideal.mul_one_div (hl _), Ideal.mul_one_div (hl _)]
  simp only [hP]

/-- The two results are one array. -/
theorem same (x : FVec Ideal S64x256x768 .f32) (p : FVec Ideal S201x5x768 .f32) (s : FVec Ideal S200x5 .f32)
    (P : FVec Ideal S1024x768 .f32) (w : FVec Ideal S1x1024 .f32) (t : FVec Ideal S1024x256 .bf16)
    (hP : ∀ r d, P (ix2 r d) = if h : r.val < 1005 then p (ix3 (⟨r.val / 5, by omega⟩ : Fin 201) (⟨r.val % 5, by omega⟩ : Fin 5) d) else (0 : EReal))
    (hw : ∀ r, w (ix2 0 r) = if h : r.val < 1000 then s (ix2 (⟨r.val / 5, by omega⟩ : Fin 200) (⟨r.val % 5, by omega⟩ : Fin 5))
      else Ideal.ofBits .f32 0xF149F2CA#32)
    (ht : ∀ r d, t (ix2 r d) = if r.val / 5 = d.val then (1 : EReal) else 0)
    (h : Cert.Pre_class_maxima_within_69.fn (F := Ideal) x p s = fun _ => 1#1) :
    extractStridedSlice S64x200 ![0, 0] (Launched.out (F := Ideal) x P w t) slices_S64x256_S64x200_0_0
      = score (largest (dots (unitX x) (unitP p))) (share s) := by
  obtain ⟨hreal, hspread⟩ := weights_real x p s h
  choose u hu hlo hhi using hreal
  funext j
  obtain ⟨b, c, rfl⟩ : ∃ (b : Fin 64) (c : Fin 200), j = ix2 b c := ⟨_, _, eq_ix2 j⟩
  have hslice : extractStridedSlice S64x200 ![0, 0] (Launched.out (F := Ideal) x P w t) slices_S64x256_S64x200_0_0 (ix2 b c)
      = Launched.out (F := Ideal) x P w t (ix2 b (c.castLE (by decide) : Fin 256)) := by
    pointwise
    rfl
  have hwrow : ∀ k, w (ix2 0 (row c k)) = (u c k : EReal) := fun k => by
    have hk := k.isLt
    have hc := c.isLt
    rw [hw, dif_pos (show (row c k).val < 1000 by simp only [row]; omega), ← hu c k]
    have e : ∀ (a : Fin 200) (l : Fin 5), a = c → l = k → s (ix2 a l) = s (ix2 c k) := by rintro _ _ rfl rfl; rfl
    exact e _ _ (Fin.ext (by simp only [row]; omega)) (Fin.ext (by simp only [row]; omega))
  have hProw : ∀ k d, P (ix2 (row c k) d) = p (ix3 (c.castLE (by decide) : Fin 201) k d) := fun k d => by
    have hk := k.isLt
    have hc := c.isLt
    rw [hP, dif_pos (show (row c k).val < 1005 by simp only [row]; omega)]
    have e : ∀ (a : Fin 201) (l : Fin 5), a = c.castLE (by decide) → l = k → p (ix3 a l d) = p (ix3 (c.castLE (by decide) : Fin 201) k d) := by
      rintro _ _ rfl rfl; rfl
    exact e _ _ (Fin.ext (by simp only [row, Fin.val_castLE]; omega)) (Fin.ext (by simp only [row]; omega))
  obtain ⟨S, hS, -⟩ := fold_max_real Finset.univ (fun l : Fin 200 × Fin 5 => (s (ix2 l.1 l.2) : EReal)) big (fun l _ => by
      rw [hu]
      exact EReal.coe_le_coe_iff.mpr (hhi _ _)) (c, 0) (Finset.mem_univ _) (u c 0) (hu c 0)
  have hleS : ∀ a l, s (ix2 a l) ≤ (S : EReal) := fun a l =>
    hS ▸ (Finset.le_fold_max _).mpr (Or.inr ⟨(a, l), Finset.mem_univ _, le_rfl⟩)
  obtain ⟨M, hM, hMS⟩ := fold_max_real Finset.univ (fun l : Fin 1 × Fin 1024 => (w (ix2 0 l.2) : EReal)) S (fun l _ => by
      rw [hw]
      split_ifs
      · exact hleS _ _
      · rw [word_border]
        exact (EReal.coe_le_coe_iff.mpr (hlo c 0)).trans ((hu c 0).ge.trans (hleS c 0))) (0, row c 0) (Finset.mem_univ _) (u c 0) (hwrow 0)
  obtain ⟨m, hm, -⟩ := fold_max_real Finset.univ (fun l : Fin 5 => (s (ix2 c l) : EReal)) big (fun l _ => by
      rw [hu]
      exact EReal.coe_le_coe_iff.mpr (hhi _ _)) 0 (Finset.mem_univ _) (u c 0) (hu c 0)
  obtain ⟨k₀, hk₀⟩ := fold_max_attained _ (u c) (hu c) m hm
  have hSm : S - m ≤ 69 := by
    have e := hspread c
    rw [hS, hm, ← EReal.coe_sub] at e
    exact EReal.coe_le_coe_iff.mp e
  obtain ⟨fl, hfl, hfl'⟩ := word_floor
  have hexp : ∀ k, k0_pay35 (F := Ideal) w (ix2 0 (row c k)) = Ideal.exp ((u c k : EReal) - (M : EReal)) := fun k => by
    rw [Launched.exps_apply, word_bot, hM, hwrow]
  have hshift : ∀ k, shifted s (ix2 c k) = Ideal.exp ((u c k : EReal) - (m : EReal)) := fun k => by
    rw [shifted_apply, word_bot, hm, hu, max_eq_right bot_le]
  have hcol : ∀ r, t (ix2 r (c.castLE (by decide) : Fin 256)) = if r.val / 5 = c.val then (1 : EReal) else 0 := fun r => ht r _
  have hnamed : (Named.named (F := Ideal) (φ := .f32) κ "count_over_temp" 0x41C80000#32 : EReal) = ((5 / (13421773 / 2 ^ 26) : ℝ) : EReal) := by
    show ((335544320 / 13421773 : ℝ) : EReal) = _
    norm_num
  rw [hslice, Launched.out_apply, score_apply,
    sum_class (fun r => Launched.best x P b r * k0_pay35 (F := Ideal) w (ix2 0 r)) c _ hcol, sum_class (fun r => k0_pay35 (F := Ideal) w (ix2 0 r)) c _ hcol,
    hnamed, hfl, word_temp]
  simp only [share_apply, word_five, hexp, hshift, best_eq x p P b c _ (hProw _)]
  exact score_eq _ (u c) M m fl _ k₀ (by linarith) hfl' (by norm_num)

end Cert.Same

end
-- ==== Proof.Tie.lean ====
/- The value claim: run from the same arguments, the launched program and the plain formula end with the same result. -/
module

public import proofs.«01_k».proof.Defs
public import proofs.«01_k».proof.Proof.Frames
public import proofs.«01_k».proof.Proof.Entry
public import proofs.«01_k».proof.Proof.Result
public import proofs.«01_k».proof.Proof.Same

@[expose] public section

set_option maxRecDepth 16384

noncomputable section

namespace Cert.Tie

open Idealize.ShloMosaic Idealize.ShloMosaic.TcCoe Idealize.SL.Sem Cert.ReferenceIdeal.Value

/-- The plain formula's result, piece by piece. -/
theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v37)
            = score (largest (dots (unitX (m ((c.tc : Thread Cert.ReferenceIdeal.nD Cert.ReferenceIdeal.τ).loc Cert.ReferenceIdeal.main_arg0)))
                (unitP (m ((c.tc : Thread Cert.ReferenceIdeal.nD Cert.ReferenceIdeal.τ).loc Cert.ReferenceIdeal.main_arg1)))))
              (share (m ((c.tc : Thread Cert.ReferenceIdeal.nD Cert.ReferenceIdeal.τ).loc Cert.ReferenceIdeal.main_arg2)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) := by
  unfold score largest dots unitX unitP share shifted
  exact Cert.ReferenceIdeal.Value.run (F := Ideal) m ρ

/-- Equal results from equal arguments, for weights of which every class has one within sixty-nine of the largest. -/
theorem algebraic : Cert.algebraic_KernelIdeal_ReferenceIdeal_pre_class_maxima_within_69
    (hKernelIdeal := Cert.KernelIdeal.Gen.facts) (hReferenceIdeal := Cert.ReferenceIdeal.Gen.facts) (hPre_class_maxima_within_69 := Cert.Same.facts) := by
  intro m g m' g' hpre hargs
  refine ⟨fun c => Pipeline.afterTail₀ Cert.KernelIdeal.cfgs (Cert.KernelIdeal.Run.dats m) 0 (Cert.KernelIdeal.Run.V0 m)
      [Cert.KernelIdeal.Gen.hostOps1] c Cert.KernelIdeal.main_v10,
    (θ_run Cert.KernelIdeal.defs _ _).mono (fun _ h c => ⟨(h.1 c).2.2.2, (h.1 c).1, (h.1 c).2.1, (h.1 c).2.2.1⟩) (Cert.KernelIdeal.Run.run m g),
    (θ_run Cert.ReferenceIdeal.defs _ _).mono (fun r h c => ⟨(h c).1.trans ?_, (h c).2⟩) (reference_run m' g')⟩
  dsimp only
  rw [(hargs c).1, (hargs c).2.1, (hargs c).2.2, Cert.KernelIdeal.Run.result m c, Cert.KernelIdeal.Run.V_main_arg0]
  exact (Cert.Same.same _ _ _ _ _ _ (Cert.KernelIdeal.Run.rows_apply m c) (Cert.KernelIdeal.Run.weights_apply m c)
    (Cert.KernelIdeal.Run.classes_apply m c) (hpre c)).symm

end Cert.Tie

end
-- ==== Proof.lean ====
/- The claim: the programs run, the named constant is what its name says, and the two ideal programs' results are equal. -/
module

public import proofs.«01_k».proof.Defs
public import proofs.«01_k».proof.Proof.Tie

@[expose] public section

noncomputable section

namespace Cert.Proof

/-- Everything claimed. -/
theorem claim : Cert.Claim := ⟨Cert.Kernel.Gen.facts, Cert.KernelIdeal.Gen.facts, Cert.ReferenceIdeal.Gen.facts, Cert.Same.facts,
  Cert.Frames.kernel, Cert.Frames.ideal, fun m g _ => Cert.Frames.ideal m g trivial, Cert.Frames.reference,
  fun m g _ => Cert.Frames.reference m g trivial, Cert.Frames.preserves, Cert.Tie.algebraic⟩

end Cert.Proof

end
